-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v2_0)) (v5 : (c : Dev Cert.KernelIdeal.nD) → Buf (Elt Ideal) ((c.tc : Thread Cert.KernelIdeal.nD Cert.KernelIdeal.τ).loc Cert.KernelIdeal.main_v2_1)) (v6 : (c : Dev Cert.KernelIdeal.nD) → Buf (Elt Ideal) ((c.tc : Thread Cert.KernelIdeal.nD Cert.KernelIdeal.τ).loc Cert.KernelIdeal.main_v5_0)) (v7 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v2_0) = v4 c
          ∧ r.2.mem ((c.tc : Thread Cert.KernelIdeal.nD Cert.KernelIdeal.τ).loc Cert.KernelIdeal.main_v2_1) = v5 c
          ∧ r.2.mem ((c.tc : Thread Cert.KernelIdeal.nD Cert.KernelIdeal.τ).loc Cert.KernelIdeal.main_v5_0) = v6 c
          ∧ r.2.mem ((c.tc : Thread Cert.KernelIdeal.nD Cert.KernelIdeal.τ).loc Cert.KernelIdeal.main_v5_1) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x3584 : Shape := ⟨3, ![1, 8192, 3584]⟩
abbrev S3584 : Shape := ⟨1, ![3584]⟩
abbrev S10624x3584 : Shape := ⟨2, ![10624, 3584]⟩
abbrev S10624 : Shape := ⟨1, ![10624]⟩
abbrev S3584x4736 : Shape := ⟨2, ![3584, 4736]⟩
abbrev S8192x3584 : Shape := ⟨2, ![8192, 3584]⟩
abbrev S1x3584 : Shape := ⟨2, ![1, 3584]⟩
abbrev S1x8192 : Shape := ⟨2, ![1, 8192]⟩
abbrev S8192x128 : Shape := ⟨2, ![8192, 128]⟩
abbrev S256x3584 : Shape := ⟨2, ![256, 3584]⟩
abbrev S1x256 : Shape := ⟨2, ![1, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S83x1x128 : Shape := ⟨3, ![83, 1, 128]⟩
abbrev S7x8192x128 : Shape := ⟨3, ![7, 8192, 128]⟩
abbrev S1024x3584 : Shape := ⟨2, ![1024, 3584]⟩
abbrev S1152x3584 : Shape := ⟨2, ![1152, 3584]⟩
abbrev S1024x128 : Shape := ⟨2, ![1024, 128]⟩
abbrev S9x1x128 : Shape := ⟨3, ![9, 1, 128]⟩
abbrev S7x1024x128 : Shape := ⟨3, ![7, 1024, 128]⟩
abbrev S128x3584 : Shape := ⟨2, ![128, 3584]⟩
abbrev S1x1x128 : Shape := ⟨3, ![1, 1, 128]⟩
abbrev S1x128 : Shape := ⟨2, ![1, 128]⟩
abbrev S1x1024x128 : Shape := ⟨3, ![1, 1024, 128]⟩
abbrev S8192x4736 : Shape := ⟨2, ![8192, 4736]⟩
abbrev S1024x4736 : Shape := ⟨2, ![1024, 4736]⟩
abbrev S1x1024 : Shape := ⟨2, ![1, 1024]⟩
abbrev S37x1024x128 : Shape := ⟨3, ![37, 1024, 128]⟩
abbrev S1024x256 : Shape := ⟨2, ![1024, 256]⟩
abbrev S1024 : Shape := ⟨1, ![1024]⟩
abbrev S1024x1 : Shape := ⟨2, ![1024, 1]⟩
abbrev S128x1024 : Shape := ⟨2, ![128, 1024]⟩
abbrev S512x4736 : Shape := ⟨2, ![512, 4736]⟩
abbrev S1x512 : Shape := ⟨2, ![1, 512]⟩
abbrev S1024x512 : Shape := ⟨2, ![1024, 512]⟩

abbrev nBuf : Space → Nat
  | .hbm => 20
  | .vmem => 53
  | .smem => 0
  | _ => 0

abbrev bufTy : (tb : Table) → Fin (tcTables nBuf tb) → BufTy
  | .hbm, ⟨0, _⟩ => ⟨S1x8192x3584, .bf16⟩
  | .hbm, ⟨1, _⟩ => ⟨S3584, .bf16⟩
  | .hbm, ⟨2, _⟩ => ⟨S10624x3584, .fp8e4m3⟩
  | .hbm, ⟨3, _⟩ => ⟨S10624, .f32⟩
  | .hbm, ⟨4, _⟩ => ⟨S3584x4736, .fp8e4m3⟩
  | .hbm, ⟨5, _⟩ => ⟨S3584, .f32⟩
  | .hbm, ⟨6, _⟩ => ⟨S8192x3584, .bf16⟩
  | .hbm, ⟨7, _⟩ => ⟨S1x3584, .bf16⟩
  | .hbm, ⟨8, _⟩ => ⟨S8192x3584, .fp8e4m3⟩
  | .hbm, ⟨9, _⟩ => ⟨S1x8192, .f32⟩
  | .hbm, ⟨10, _⟩ => ⟨S8192x128, .f32⟩
  | .hbm, ⟨11, _⟩ => ⟨S83x1x128, .f32⟩
  | .hbm, ⟨12, _⟩ => ⟨S7x8192x128, .bf16⟩
  | .hbm, ⟨13, _⟩ => ⟨S8192x128, .bf16⟩
  | .hbm, ⟨14, _⟩ => ⟨S8192x128, .bf16⟩
  | .hbm, ⟨15, _⟩ => ⟨S8192x4736, .fp8e4m3⟩
  | .hbm, ⟨16, _⟩ => ⟨S1x8192, .f32⟩
  | .hbm, ⟨17, _⟩ => ⟨S8192x128, .f32⟩
  | .hbm, ⟨18, _⟩ => ⟨S1x3584, .f32⟩
  | .hbm, ⟨19, _⟩ => ⟨S8192x3584, .bf16⟩
  | .local _ .vmem, ⟨0, _⟩ => ⟨S256x3584, .bf16⟩
  | .local _ .vmem, ⟨1, _⟩ => ⟨S256x3584, .bf16⟩
  | .local _ .vmem, ⟨2, _⟩ => ⟨S1x3584, .bf16⟩
  | .local _ .vmem, ⟨3, _⟩ => ⟨S256x3584, .fp8e4m3⟩
  | .local _ .vmem, ⟨4, _⟩ => ⟨S256x3584, .fp8e4m3⟩
  | .local _ .vmem, ⟨5, _⟩ => ⟨S1x256, .f32⟩
  | .local _ .vmem, ⟨6, _⟩ => ⟨S1x256, .f32⟩
  | .local _ .vmem, ⟨7, _⟩ => ⟨S256x128, .f32⟩
  | .local _ .vmem, ⟨8, _⟩ => ⟨S256x128, .f32⟩
  | .local _ .vmem, ⟨9, _⟩ => ⟨S1024x3584, .fp8e4m3⟩
  | .local _ .vmem, ⟨10, _⟩ => ⟨S1024x3584, .fp8e4m3⟩
  | .local _ .vmem, ⟨11, _⟩ => ⟨S1152x3584, .fp8e4m3⟩
  | .local _ .vmem, ⟨12, _⟩ => ⟨S1024x128, .f32⟩
  | .local _ .vmem, ⟨13, _⟩ => ⟨S1024x128, .f32⟩
  | .local _ .vmem, ⟨14, _⟩ => ⟨S9x1x128, .f32⟩
  | .local _ .vmem, ⟨15, _⟩ => ⟨S7x1024x128, .bf16⟩
  | .local _ .vmem, ⟨16, _⟩ => ⟨S7x1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x3584, .fp8e4m3⟩
  | .local _ .vmem, ⟨22, _⟩ => ⟨S1024x3584, .fp8e4m3⟩
  | .local _ .vmem, ⟨23, _⟩ => ⟨S128x3584, .fp8e4m3⟩
  | .local _ .vmem, ⟨24, _⟩ => ⟨S128x3584, .fp8e4m3⟩
  | .local _ .vmem, ⟨25, _⟩ => ⟨S128x3584, .fp8e4m3⟩
  | .local _ .vmem, ⟨26, _⟩ => ⟨S128x3584, .fp8e4m3⟩
  | .local _ .vmem, ⟨27, _⟩ => ⟨S1024x128, .f32⟩
  | .local _ .vmem, ⟨28, _⟩ => ⟨S1024x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S1024x4736, .fp8e4m3⟩
  | .local _ .vmem, ⟨34, _⟩ => ⟨S1024x4736, .fp8e4m3⟩
  | .local _ .vmem, ⟨35, _⟩ => ⟨S1x1024, .f32⟩
  | .local _ .vmem, ⟨36, _⟩ => ⟨S1x1024, .f32⟩
  | .local _ .vmem, ⟨37, _⟩ => ⟨S1024x128, .f32⟩
  | .local _ .vmem, ⟨38, _⟩ => ⟨S1024x128, .f32⟩
  | .local _ .vmem, ⟨39, _⟩ => ⟨S37x1024x128, .f32⟩
  | .local _ .vmem, ⟨40, _⟩ => ⟨S1024x128, .f32⟩
  | .local _ .vmem, ⟨41, _⟩ => ⟨S1024x4736, .fp8e4m3⟩
  | .local _ .vmem, ⟨42, _⟩ => ⟨S1024x4736, .fp8e4m3⟩
  | .local _ .vmem, ⟨43, _⟩ => ⟨S512x4736, .fp8e4m3⟩
  | .local _ .vmem, ⟨44, _⟩ => ⟨S512x4736, .fp8e4m3⟩
  | .local _ .vmem, ⟨45, _⟩ => ⟨S1024x128, .f32⟩
  | .local _ .vmem, ⟨46, _⟩ => ⟨S1024x128, .f32⟩
  | .local _ .vmem, ⟨47, _⟩ => ⟨S1x512, .f32⟩
  | .local _ .vmem, ⟨48, _⟩ => ⟨S1x512, .f32⟩
  | .local _ .vmem, ⟨49, _⟩ => ⟨S1024x512, .bf16⟩
  | .local _ .vmem, ⟨50, _⟩ => ⟨S1024x512, .bf16⟩
  | .local _ .vmem, ⟨51, _⟩ => ⟨S1024x512, .bf16⟩
  | .local _ .vmem, ⟨52, _⟩ => ⟨S1024x512, .bf16⟩
  | _, _ => ⟨S1x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg8_1 : Ref sig .tc := ⟨.vmem, 38, rfl⟩
abbrev cc2_scratch0 : Ref sig .tc := ⟨.vmem, 39, rfl⟩
abbrev cc2_scratch1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg2_1 : Ref sig .tc := ⟨.vmem, 46, rfl⟩
abbrev cc3_stg3_0 : Ref sig .tc := ⟨.vmem, 47, rfl⟩
abbrev cc3_stg3_1 : Ref sig .tc := ⟨.vmem, 48, rfl⟩
abbrev cc3_stg4_0 : Ref sig .tc := ⟨.vmem, 49, rfl⟩
abbrev cc3_stg4_1 : Ref sig .tc := ⟨.vmem, 50, rfl⟩
abbrev cc3_stg5_0 : Ref sig .tc := ⟨.vmem, 51, rfl⟩
abbrev cc3_stg5_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc2_sem7_0 : DmaSem sig := 35
abbrev cc2_sem7_1 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem4_1 : DmaSem sig := 48
abbrev cc3_sem5_0 : DmaSem sig := 49
abbrev cc3_sem5_1 : DmaSem sig := 50

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x3584 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1152x3584 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S9x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S7x1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![8, 37], ![false, false]⟩

def k2_off1 (i : grid2.Coords) : Fin 3 → Nat :=
  let arg1 : BitVec 32 := BitVec.ofNat 32 (i 1).val
  let v29 : Index := Scalar.indexCast arg1
  let c0_16 : Index := 0#32
  let c0_17 : Index := 0#32
  ![v29.toNat, 0, 0]
def k2_cond1 (i : grid2.Coords) : BitVec 1 :=
  let arg1 : BitVec 32 := BitVec.ofNat 32 (i 1).val
  let c36_i32 : BitVec 32 := 36#32
  let v42 : BitVec 1 := Scalar.cmpi .eq arg1 c36_i32
  let v43 : BitVec 32 := Scalar.extui v42
  let c0_i32_23 : BitVec 32 := 0#32
  let v44 : BitVec 1 := Scalar.cmpi .ne v43 c0_i32_23
  v44

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let arg1 : BitVec 32 := BitVec.ofNat 32 (i 1).val
  let c46_i32 : BitVec 32 := 46#32
  let v0 : BitVec 32 := Scalar.addi c46_i32 arg1
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  let c0_i32_1 : BitVec 32 := 0#32
  ![v0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c46_i32 : BitVec 32 := 46#32
  let v0 : BitVec 32 := Scalar.addi c46_i32 arg1
  let c0_i32 : BitVec 32 := 0#32
  let c0_i32_0 : BitVec 32 := 0#32
  let c0_i32_1 : BitVec 32 := 0#32
  ![v0.toNat, c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x3584 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x3584 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S128x3584 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1024x4736 .fp8e4m3 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1024x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨2, ![8, 7], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4736 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x4736 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== ReferenceIdeal.lean ====
abbrev S1x8192x3584 : Shape := ⟨3, ![1, 8192, 3584]⟩
abbrev S3584 : Shape := ⟨1, ![3584]⟩
abbrev S10624x3584 : Shape := ⟨2, ![10624, 3584]⟩
abbrev S10624 : Shape := ⟨1, ![10624]⟩
abbrev S3584x4736 : Shape := ⟨2, ![3584, 4736]⟩
abbrev S7x8192x128 : Shape := ⟨3, ![7, 8192, 128]⟩
abbrev S8192x128 : Shape := ⟨2, ![8192, 128]⟩
abbrev S8192x3584 : Shape := ⟨2, ![8192, 3584]⟩
abbrev S1x8192 : Shape := ⟨2, ![1, 8192]⟩
abbrev S8192x4736 : Shape := ⟨2, ![8192, 4736]⟩
abbrev S8192 : Shape := ⟨1, ![8192]⟩
abbrev S8192x1 : Shape := ⟨2, ![8192, 1]⟩
abbrev S1x3584 : Shape := ⟨2, ![1, 3584]⟩
abbrev S1x253 : Shape := ⟨2, ![1, 253]⟩
abbrev S8192x253 : Shape := ⟨2, ![8192, 253]⟩
abbrev S8192x10624 : Shape := ⟨2, ![8192, 10624]⟩
abbrev S1x10624 : Shape := ⟨2, ![1, 10624]⟩
abbrev S8192x896 : Shape := ⟨2, ![8192, 896]⟩
abbrev S1x8192x128 : Shape := ⟨3, ![1, 8192, 128]⟩

abbrev nBuf : Space → Nat
  | .hbm => 14
  | .vmem => 14
  | .smem => 0
  | _ => 0

abbrev bufTy : (tb : Table) → Fin (tcTables nBuf tb) → BufTy
  | .hbm, ⟨0, _⟩ => ⟨S1x8192x3584, .bf16⟩
  | .hbm, ⟨1, _⟩ => ⟨S3584, .bf16⟩
  | .hbm, ⟨2, _⟩ => ⟨S10624x3584, .fp8e4m3⟩
  | .hbm, ⟨3, _⟩ => ⟨S10624, .f32⟩
  | .hbm, ⟨4, _⟩ => ⟨S3584x4736, .fp8e4m3⟩
  | .hbm, ⟨5, _⟩ => ⟨S3584, .f32⟩
  | .hbm, ⟨6, _⟩ => ⟨S7x8192x128, .bf16⟩
  | .hbm, ⟨7, _⟩ => ⟨S8192x128, .bf16⟩
  | .hbm, ⟨8, _⟩ => ⟨S8192x128, .bf16⟩
  | .hbm, ⟨9, _⟩ => ⟨S8192x3584, .bf16⟩
  | .hbm, ⟨10, _⟩ => ⟨S8192x3584, .fp8e4m3⟩
  | .hbm, ⟨11, _⟩ => ⟨S1x8192, .f32⟩
  | .hbm, ⟨12, _⟩ => ⟨S8192x4736, .fp8e4m3⟩
  | .hbm, ⟨13, _⟩ => ⟨S1x8192, .f32⟩
  | .local _ .vmem, ⟨0, _⟩ => ⟨S1x8192x3584, .bf16⟩
  | .local _ .vmem, ⟨1, _⟩ => ⟨S3584, .bf16⟩
  | .local _ .vmem, ⟨2, _⟩ => ⟨S10624x3584, .fp8e4m3⟩
  | .local _ .vmem, ⟨3, _⟩ => ⟨S10624, .f32⟩
  | .local _ .vmem, ⟨4, _⟩ => ⟨S3584x4736, .fp8e4m3⟩
  | .local _ .vmem, ⟨5, _⟩ => ⟨S3584, .f32⟩
  | .local _ .vmem, ⟨6, _⟩ => ⟨S7x8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x3584, .bf16⟩
  | .local _ .vmem, ⟨10, _⟩ => ⟨S8192x3584, .fp8e4m3⟩
  | .local _ .vmem, ⟨11, _⟩ => ⟨S1x8192, .f32⟩
  | .local _ .vmem, ⟨12, _⟩ => ⟨S8192x4736, .fp8e4m3⟩
  | .local _ .vmem, ⟨13, _⟩ => ⟨S1x8192, .f32⟩
  | _, _ => ⟨S1x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x8192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10624x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10624 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x4736 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x8192x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x3584 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x3584 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x4736 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.RegionNorm.lean ====
/- Region 0 of the program, the normalising and quantising call: what one grid point leaves in each output
   buffer (`out0_W`), and that its body does so at every point (`body_obligation0`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- what the core's buffers hold when the region is entered
variable (V : (c : Dev nD) → (b : Ref sig .tc) → Buf (Elt F) ((c : Thread nD τ).loc b))

/-! # REGION 0 of @main: custom_call 0, `cc0_norm` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x3584 := Rect.unit (s := S256x3584) ![0, 0] S256x3584.size inb_S256x3584_S256x3584_0_0
abbrev r0_1 : Rect S1x3584 := Rect.unit (s := S1x3584) ![0, 0] S1x3584.size inb_S1x3584_S1x3584_0_0
abbrev r0_2 : Rect S256x128 := Rect.unit (s := S256x128) ![0, 0] S256x128.size inb_S256x128_S256x128_0_0
abbrev r0_3 : Rect S1x256 := Rect.unit (s := S1x256) ![0, 0] S1x256.size inb_S1x256_S1x256_0_0

/-! ## What the body leaves in each output window's buffer -/

/-! ### Values of the body that the stores' payloads, spelt out, would write more than once

    Each is a vector the body binds (often a part call's result), stated over the input windows' blocks and
    numbered on from the skeleton's payload functions (`k0_pay14` …, after `k0_pay13`), so that
    `out0_W` and the values after it name it instead of spelling it out (`unfold_out out0_W` opens a canon
    with them, `unfold_payloads` opens them with the payloads); the comment after each is the printed function's
    name for the value (a count appended where that name is bound again). -/

def k0_pay14 (x0 : Vec F S256x3584 .bf16) (x1 : Vec F S1x3584 .bf16) : FVec F S256x1 .f32 :=
  k0_pay5 (View.ld x0 r0_0) (View.ld x1 r0_1) -- `v20`
def k0_pay15 (x0 : Vec F S256x3584 .bf16) (x1 : Vec F S1x3584 .bf16) : FVec F S256x1 .f32 :=
  k0_pay6 (View.ld x0 r0_0) (View.ld x1 r0_1) -- `v22`
def k0_pay16 (x0 : Vec F S256x3584 .bf16) (x1 : Vec F S1x3584 .bf16) : IVec S256x1 32 :=
  k0_pay7 (View.ld x0 r0_0) (View.ld x1 r0_1) -- `v34`
def k0_pay17 (x0 : Vec F S256x3584 .bf16) (x1 : Vec F S1x3584 .bf16) : FVec F S256x1 .f32 :=
  k0_pay8 (View.ld x0 r0_0) (View.ld x1 r0_1) -- `v41`
def k0_pay18 (x0 : Vec F S256x3584 .bf16) (x1 : Vec F S1x3584 .bf16) : IVec S256x1 32 :=
  k0_pay9 (k0_pay15 x0 x1) (k0_pay16 x0 x1) (k0_pay17 x0 x1) -- `v78`
def k0_pay19 (x0 : Vec F S256x3584 .bf16) (x1 : Vec F S1x3584 .bf16) : FVec F S256x1 .f32 :=
  k0_pay10 (k0_pay15 x0 x1) (k0_pay16 x0 x1) (k0_pay17 x0 x1) -- `v85`
def k0_pay20 (x0 : Vec F S256x3584 .bf16) (x1 : Vec F S1x3584 .bf16) : FVec F S256x1 .f32 :=
  k0_pay12 (k0_pay14 x0 x1) (k0_pay15 x0 x1) (k0_pay18 x0 x1) (k0_pay19 x0 x1) -- `v126`

/-- Window 2's staging buffer after the body, from the input windows' blocks: its 1 store as pieces, LAST
    FIRST (Lib/Pipeline/FrameBody.lean `View.canon`; the payloads are the skeleton's and the values stated above). -/
def out0_2 (x0 : Vec F S256x3584 .bf16) (x1 : Vec F S1x3584 .bf16) : Vec F S256x3584 .fp8e4m3 :=
  View.canon [⟨r0_0, k0_pay1 (k0_pay4 (View.ld x0 r0_0) (View.ld x1 r0_1)) (k0_pay13 (k0_pay14 x0 x1) (k0_pay15 x0 x1) (k0_pay18 x0 x1) (k0_pay19 x0 x1)) 23#32⟩]

/-- Its stores tile the buffer (checked by evaluation), so they cover it. -/
theorem cover0_2 (p0 : Vec F S256x3584 .fp8e4m3) (y : S256x3584.Idx) :
    ∃ pc ∈ ([⟨r0_0, p0⟩] : List (View.Piece (Elt F) S256x3584 .fp8e4m3)), y ∈ pc.1.set :=
  View.cover_of_tiled [⟨r0_0, p0⟩] S256x3584.size (by rfl) y

/-- Window 3's staging buffer after the body, from the input windows' blocks: its 1 store as pieces, LAST
    FIRST (Lib/Pipeline/FrameBody.lean `View.canon`; the payloads are the skeleton's and the values stated above). -/
def out0_3 (x0 : Vec F S256x3584 .bf16) (x1 : Vec F S1x3584 .bf16) : Vec F S1x256 .f32 :=
  View.canon [⟨r0_3, k0_pay3 (k0_pay20 x0 x1)⟩]

/-- Its stores tile the buffer (checked by evaluation), so they cover it. -/
theorem cover0_3 (p0 : Vec F S1x256 .f32) (y : S1x256.Idx) :
    ∃ pc ∈ ([⟨r0_3, p0⟩] : List (View.Piece (Elt F) S1x256 .f32)), y ∈ pc.1.set :=
  View.cover_of_tiled [⟨r0_3, p0⟩] S1x256.size (by rfl) y

/-- Window 4's staging buffer after the body, from the input windows' blocks: its 1 store as pieces, LAST
    FIRST (Lib/Pipeline/FrameBody.lean `View.canon`; the payloads are the skeleton's and the values stated above). -/
def out0_4 (x0 : Vec F S256x3584 .bf16) (x1 : Vec F S1x3584 .bf16) : Vec F S256x128 .f32 :=
  View.canon [⟨r0_2, k0_pay2 (k0_pay20 x0 x1)⟩]

/-- Its stores tile the buffer (checked by evaluation), so they cover it. -/
theorem cover0_4 (p0 : Vec F S256x128 .f32) (y : S256x128.Idx) :
    ∃ pc ∈ ([⟨r0_2, p0⟩] : List (View.Piece (Elt F) S256x128 .f32)), y ∈ pc.1.set :=
  View.cover_of_tiled [⟨r0_2, p0⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x3584 .bf16) (harg1 : arg1.IsWhole) (arg2 : Memref sig .tc .vmem S1x3584 .bf16) (harg2 : arg2.IsWhole) (arg3 : Memref sig .tc .vmem S256x3584 .fp8e4m3) (harg3 : arg3.IsWhole) (arg4 : Memref sig .tc .vmem S1x256 .f32) (harg4 : arg4.IsWhole) (arg5 : Memref sig .tc .vmem S256x128 .f32) (harg5 : arg5.IsWhole)
    (x0 : Vec F S256x3584 .bf16) (x1 : Vec F S1x3584 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0_norm i arg1 harg1 arg2 harg2 arg3 harg3 arg4 harg4 arg5 harg5) K := by
  simp only [cc0_norm_eq_skeleton]; unfold cc0_norm_skel
  simp only [k0_part1_eq_skeleton, k0_part2_eq_skeleton, k0_part3_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.RegionQkv.lean ====
/- Region 1 of the program, the q, k, v projections: what one grid point leaves in each output buffer
   (`out1_W`), and that its body does so at every point (`body_obligation1`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- what the core's buffers hold when the region is entered
variable (V : (c : Dev nD) → (b : Ref sig .tc) → Buf (Elt F) ((c : Thread nD τ).loc b))

/-! # REGION 1 of @main: custom_call 1, `cc1_qkv` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- What a buffer element that no transfer wrote holds: any value (there is none such in window 1, whose blocks fit). -/
def dflt1_1 : (cfg1.win 1).block.Idx → Elt F (cfg1.win 1).elt := fun _ => Classical.choice inferInstance
/-- Window 1's staging buffer at point `t`: its block, which the transfer moves whole. -/
def X1_1 (c : Dev nD) (t : Fin cfg1.N) : (cfg1.win 1).block.Idx → Elt F (cfg1.win 1).elt :=
  (cfg1.win 1).fill (cfg1.grid.coords t) dflt1_1 (iblk1 V c 1 t)
theorem xsize1_1 : ∀ t : Fin cfg1.N, ∀ a, (cfg1.win 1).xsize (cfg1.grid.coords t) a = (cfg1.win 1).size a := by decide +kernel
theorem moved1_1 (t : Fin cfg1.N) (j) : (cfg1.win 1).moved (cfg1.grid.coords t) j = true :=
  ((cfg1.win 1).moved_iff _ j).mpr fun a => by rw [xsize1_1 t a]; exact (j a).isLt
theorem fill1_1 (t : Fin cfg1.N) (d d' : (cfg1.win 1).block.Idx → Elt F (cfg1.win 1).elt) (g) :
    (cfg1.win 1).fill (cfg1.grid.coords t) d g = (cfg1.win 1).fill (cfg1.grid.coords t) d' g := by
  funext j; unfold Pipeline.Window.fill; rw [dif_pos (moved1_1 t j), dif_pos (moved1_1 t j)]
/-- Input window 1's current staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = X1_1 V c t) (t : Fin cfg1.N) (d) : dat.before 1 t d = X1_1 V c t :=
  (dat.before_in_eq_fetched 1 rfl (fun _ => rfl)
    (fun t t' h => funext fun a => congrArg (fun n => Pipeline.Clip.of n ((cfg1.win 1).size a) (S10624x3584.size a)) (congrFun h a))
    (fun t => by rw [hafter]; unfold X1_1; rw [Pipeline.Window.cut_fill]; unfold Dat.blockOf iblk1; rw [hA]; try rfl) t d).trans
  (by unfold Dat.fetched X1_1; rw [fill1_1 t d dflt1_1]; unfold Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- What a buffer element that no transfer wrote holds: any value (there is none such in window 3, whose blocks fit). -/
def dflt1_3 : (cfg1.win 3).block.Idx → Elt F (cfg1.win 3).elt := fun _ => Classical.choice inferInstance
/-- Window 3's staging buffer at point `t`: its block, which the transfer moves whole. -/
def X1_3 (c : Dev nD) (t : Fin cfg1.N) : (cfg1.win 3).block.Idx → Elt F (cfg1.win 3).elt :=
  (cfg1.win 3).fill (cfg1.grid.coords t) dflt1_3 (iblk1 V c 3 t)
theorem xsize1_3 : ∀ t : Fin cfg1.N, ∀ a, (cfg1.win 3).xsize (cfg1.grid.coords t) a = (cfg1.win 3).size a := by decide +kernel
theorem moved1_3 (t : Fin cfg1.N) (j) : (cfg1.win 3).moved (cfg1.grid.coords t) j = true :=
  ((cfg1.win 3).moved_iff _ j).mpr fun a => by rw [xsize1_3 t a]; exact (j a).isLt
theorem fill1_3 (t : Fin cfg1.N) (d d' : (cfg1.win 3).block.Idx → Elt F (cfg1.win 3).elt) (g) :
    (cfg1.win 3).fill (cfg1.grid.coords t) d g = (cfg1.win 3).fill (cfg1.grid.coords t) d' g := by
  funext j; unfold Pipeline.Window.fill; rw [dif_pos (moved1_3 t j), dif_pos (moved1_3 t j)]
/-- Input window 3's current staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = X1_3 V c t) (t : Fin cfg1.N) (d) : dat.before 3 t d = X1_3 V c t :=
  (dat.before_in_eq_fetched 3 rfl (fun _ => rfl)
    (fun t t' h => funext fun a => congrArg (fun n => Pipeline.Clip.of n ((cfg1.win 3).size a) (S83x1x128.size a)) (congrFun h a))
    (fun t => by rw [hafter]; unfold X1_3; rw [Pipeline.Window.cut_fill]; unfold Dat.blockOf iblk1; rw [hA]; try rfl) t d).trans
  (by unfold Dat.fetched X1_3; rw [fill1_3 t d dflt1_3]; unfold Dat.blockOf iblk1; rw [hA]; try rfl)

/-! ## The body's accesses -/

abbrev r1_0 : Rect S1024x128 := Rect.unit (s := S1024x128) ![0, 0] S1024x128.size inb_S1024x128_S1024x128_0_0
abbrev r1_1 : Rect S1024x3584 := Rect.unit (s := S1024x3584) ![0, 0] S1024x3584.size inb_S1024x3584_S1024x3584_0_0
abbrev r1_2 : Rect S1152x3584 := Rect.unit (s := S1152x3584) ![0, 0] S128x3584.size inb_S1152x3584_S128x3584_0_0
abbrev r1_3 : Rect S9x1x128 := Rect.unit (s := S9x1x128) ![0, 0, 0] S1x1x128.size inb_S9x1x128_S1x1x128_0_0_0
abbrev r1_4 : Rect S7x1024x128 := Rect.unit (s := S7x1024x128) ![0, 0, 0] S1x1024x128.size inb_S7x1024x128_S1x1024x128_0_0_0
abbrev r1_5 : Rect S1152x3584 := Rect.unit (s := S1152x3584) ![128, 0] S128x3584.size inb_S1152x3584_S128x3584_128_0
abbrev r1_6 : Rect S9x1x128 := Rect.unit (s := S9x1x128) ![1, 0, 0] S1x1x128.size inb_S9x1x128_S1x1x128_1_0_0
abbrev r1_7 : Rect S7x1024x128 := Rect.unit (s := S7x1024x128) ![1, 0, 0] S1x1024x128.size inb_S7x1024x128_S1x1024x128_1_0_0
abbrev r1_8 : Rect S1152x3584 := Rect.unit (s := S1152x3584) ![256, 0] S128x3584.size inb_S1152x3584_S128x3584_256_0
abbrev r1_9 : Rect S9x1x128 := Rect.unit (s := S9x1x128) ![2, 0, 0] S1x1x128.size inb_S9x1x128_S1x1x128_2_0_0
abbrev r1_10 : Rect S7x1024x128 := Rect.unit (s := S7x1024x128) ![2, 0, 0] S1x1024x128.size inb_S7x1024x128_S1x1024x128_2_0_0
abbrev r1_11 : Rect S1152x3584 := Rect.unit (s := S1152x3584) ![384, 0] S128x3584.size inb_S1152x3584_S128x3584_384_0
abbrev r1_12 : Rect S9x1x128 := Rect.unit (s := S9x1x128) ![3, 0, 0] S1x1x128.size inb_S9x1x128_S1x1x128_3_0_0
abbrev r1_13 : Rect S7x1024x128 := Rect.unit (s := S7x1024x128) ![3, 0, 0] S1x1024x128.size inb_S7x1024x128_S1x1024x128_3_0_0
abbrev r1_14 : Rect S1152x3584 := Rect.unit (s := S1152x3584) ![512, 0] S128x3584.size inb_S1152x3584_S128x3584_512_0
abbrev r1_15 : Rect S9x1x128 := Rect.unit (s := S9x1x128) ![4, 0, 0] S1x1x128.size inb_S9x1x128_S1x1x128_4_0_0
abbrev r1_16 : Rect S7x1024x128 := Rect.unit (s := S7x1024x128) ![4, 0, 0] S1x1024x128.size inb_S7x1024x128_S1x1024x128_4_0_0
abbrev r1_17 : Rect S1152x3584 := Rect.unit (s := S1152x3584) ![640, 0] S128x3584.size inb_S1152x3584_S128x3584_640_0
abbrev r1_18 : Rect S9x1x128 := Rect.unit (s := S9x1x128) ![5, 0, 0] S1x1x128.size inb_S9x1x128_S1x1x128_5_0_0
abbrev r1_19 : Rect S7x1024x128 := Rect.unit (s := S7x1024x128) ![5, 0, 0] S1x1024x128.size inb_S7x1024x128_S1x1024x128_5_0_0
abbrev r1_20 : Rect S1152x3584 := Rect.unit (s := S1152x3584) ![768, 0] S128x3584.size inb_S1152x3584_S128x3584_768_0
abbrev r1_21 : Rect S9x1x128 := Rect.unit (s := S9x1x128) ![6, 0, 0] S1x1x128.size inb_S9x1x128_S1x1x128_6_0_0
abbrev r1_22 : Rect S7x1024x128 := Rect.unit (s := S7x1024x128) ![6, 0, 0] S1x1024x128.size inb_S7x1024x128_S1x1024x128_6_0_0
abbrev r1_23 : Rect S1152x3584 := Rect.unit (s := S1152x3584) ![896, 0] S128x3584.size inb_S1152x3584_S128x3584_896_0
abbrev r1_24 : Rect S9x1x128 := Rect.unit (s := S9x1x128) ![7, 0, 0] S1x1x128.size inb_S9x1x128_S1x1x128_7_0_0
abbrev r1_25 : Rect S1152x3584 := Rect.unit (s := S1152x3584) ![1024, 0] S128x3584.size inb_S1152x3584_S128x3584_1024_0
abbrev r1_26 : Rect S9x1x128 := Rect.unit (s := S9x1x128) ![8, 0, 0] S1x1x128.size inb_S9x1x128_S1x1x128_8_0_0

/-! ## What the body leaves in each output window's buffer -/

/-! ### Values of the body that the stores' payloads, spelt out, would write more than once

    Each is a vector the body binds (often a part call's result), stated over the input windows' blocks and
    numbered on from the skeleton's payload functions (`k1_pay15` …, after `k1_pay14`), so that
    `out1_W` and the values after it name it instead of spelling it out (`unfold_out out1_W` opens a canon
    with them, `unfold_payloads` opens them with the payloads); the comment after each is the printed function's
    name for the value (a count appended where that name is bound again). -/

def k1_pay15 (x0 : Vec F S1024x3584 .fp8e4m3) (x1 : Vec F S1152x3584 .fp8e4m3) (x2 : Vec F S1024x128 .f32) (x3 : Vec F S9x1x128 .f32) : FVec F S1024x128 .f32 :=
  k1_pay2 (View.ld x2 r1_0) -- `v1`
def k1_pay16 (x0 : Vec F S1024x3584 .fp8e4m3) (x1 : Vec F S1152x3584 .fp8e4m3) (x2 : Vec F S1024x128 .f32) (x3 : Vec F S9x1x128 .f32) : FVec F S1024x3584 .fp8e4m3 :=
  k1_pay3 (View.ld x0 r1_1) -- `v3`

/-- Window 4's staging buffer after the body, from the input windows' blocks: its 7 stores as pieces, LAST
    FIRST (Lib/Pipeline/FrameBody.lean `View.canon`; the payloads are the skeleton's and the values stated above). -/
def out1_4 (x0 : Vec F S1024x3584 .fp8e4m3) (x1 : Vec F S1152x3584 .fp8e4m3) (x2 : Vec F S1024x128 .f32) (x3 : Vec F S9x1x128 .f32) : Vec F S7x1024x128 .bf16 :=
  View.canon [⟨r1_22, k1_pay12 (k1_pay15 x0 x1 x2 x3) (k1_pay16 x0 x1 x2 x3) (View.ld x1 r1_20) (View.ld x3 r1_21)⟩,
    ⟨r1_19, k1_pay11 (k1_pay10 (k1_pay15 x0 x1 x2 x3) (k1_pay16 x0 x1 x2 x3) (View.ld x1 r1_17)) (View.ld x3 r1_18)⟩,
    ⟨r1_16, k1_pay9 (k1_pay15 x0 x1 x2 x3) (k1_pay16 x0 x1 x2 x3) (View.ld x1 r1_14) (View.ld x3 r1_15)⟩,
    ⟨r1_13, k1_pay8 (k1_pay15 x0 x1 x2 x3) (k1_pay16 x0 x1 x2 x3) (View.ld x1 r1_11) (View.ld x3 r1_12)⟩,
    ⟨r1_10, k1_pay7 (k1_pay6 (View.ld x2 r1_0) (View.ld x0 r1_1) (View.ld x1 r1_8)) (View.ld x3 r1_9)⟩,
    ⟨r1_7, k1_pay5 (View.ld x2 r1_0) (View.ld x0 r1_1) (View.ld x1 r1_5) (View.ld x3 r1_6)⟩,
    ⟨r1_4, k1_pay4 (View.ld x2 r1_0) (View.ld x0 r1_1) (View.ld x1 r1_2) (View.ld x3 r1_3)⟩]

/-- Its stores tile the buffer (checked by evaluation), so they cover it. -/
theorem cover1_4 (p0 : Vec F S1x1024x128 .bf16) (p1 : Vec F S1x1024x128 .bf16) (p2 : Vec F S1x1024x128 .bf16) (p3 : Vec F S1x1024x128 .bf16) (p4 : Vec F S1x1024x128 .bf16) (p5 : Vec F S1x1024x128 .bf16) (p6 : Vec F S1x1024x128 .bf16) (y : S7x1024x128.Idx) :
    ∃ pc ∈ ([⟨r1_22, p0⟩, ⟨r1_19, p1⟩, ⟨r1_16, p2⟩, ⟨r1_13, p3⟩, ⟨r1_10, p4⟩, ⟨r1_7, p5⟩, ⟨r1_4, p6⟩] : List (View.Piece (Elt F) S7x1024x128 .bf16)), y ∈ pc.1.set :=
  View.cover_of_tiled [⟨r1_22, p0⟩, ⟨r1_19, p1⟩, ⟨r1_16, p2⟩, ⟨r1_13, p3⟩, ⟨r1_10, p4⟩, ⟨r1_7, p5⟩, ⟨r1_4, p6⟩] S1x1024x128.size (by rfl) y

/-- Window 5's staging buffer after the body, from the input windows' blocks: its 1 store as pieces, LAST
    FIRST (Lib/Pipeline/FrameBody.lean `View.canon`; the payloads are the skeleton's and the values stated above). -/
def out1_5 (x0 : Vec F S1024x3584 .fp8e4m3) (x1 : Vec F S1152x3584 .fp8e4m3) (x2 : Vec F S1024x128 .f32) (x3 : Vec F S9x1x128 .f32) : Vec F S1024x128 .bf16 :=
  View.canon [⟨r1_0, k1_pay13 (k1_pay15 x0 x1 x2 x3) (k1_pay16 x0 x1 x2 x3) (View.ld x1 r1_23) (View.ld x3 r1_24)⟩]

/-- Its stores tile the buffer (checked by evaluation), so they cover it. -/
theorem cover1_5 (p0 : Vec F S1024x128 .bf16) (y : S1024x128.Idx) :
    ∃ pc ∈ ([⟨r1_0, p0⟩] : List (View.Piece (Elt F) S1024x128 .bf16)), y ∈ pc.1.set :=
  View.cover_of_tiled [⟨r1_0, p0⟩] S1024x128.size (by rfl) y

/-- Window 6's staging buffer after the body, from the input windows' blocks: its 1 store as pieces, LAST
    FIRST (Lib/Pipeline/FrameBody.lean `View.canon`; the payloads are the skeleton's and the values stated above). -/
def out1_6 (x0 : Vec F S1024x3584 .fp8e4m3) (x1 : Vec F S1152x3584 .fp8e4m3) (x2 : Vec F S1024x128 .f32) (x3 : Vec F S9x1x128 .f32) : Vec F S1024x128 .bf16 :=
  View.canon [⟨r1_0, k1_pay1 (k1_pay14 (k1_pay15 x0 x1 x2 x3) (k1_pay16 x0 x1 x2 x3) (View.ld x1 r1_25)) (View.ld x3 r1_26)⟩]

/-- Its stores tile the buffer (checked by evaluation), so they cover it. -/
theorem cover1_6 (p0 : Vec F S1024x128 .bf16) (y : S1024x128.Idx) :
    ∃ pc ∈ ([⟨r1_0, p0⟩] : List (View.Piece (Elt F) S1024x128 .bf16)), y ∈ pc.1.set :=
  View.cover_of_tiled [⟨r1_0, p0⟩] S1024x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S1024x3584 .fp8e4m3) (harg1 : arg1.IsWhole) (arg2 : Memref sig .tc .vmem S1152x3584 .fp8e4m3) (harg2 : arg2.IsWhole) (arg3 : Memref sig .tc .vmem S1024x128 .f32) (harg3 : arg3.IsWhole) (arg4 : Memref sig .tc .vmem S9x1x128 .f32) (harg4 : arg4.IsWhole) (arg5 : Memref sig .tc .vmem S7x1024x128 .bf16) (harg5 : arg5.IsWhole) (arg6 : Memref sig .tc .vmem S1024x128 .bf16) (harg6 : arg6.IsWhole) (arg7 : Memref sig .tc .vmem S1024x128 .bf16) (harg7 : arg7.IsWhole)
    (x0 : Vec F S1024x3584 .fp8e4m3) (x1 : Vec F S1152x3584 .fp8e4m3) (x2 : Vec F S1024x128 .f32) (x3 : Vec F S9x1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3) ∗ owns (c : Thread nD τ) arg6 fullShare (out1_5 x0 x1 x2 x3) ∗ owns (c : Thread nD τ) arg7 fullShare (out1_6 x0 x1 x2 x3)) -∗ K ⟨⟩))
      ⊢ wp frame (wpE (defs₀ (F := F)) Variants.none c none) E (cc1_qkv i arg1 harg1 arg2 harg2 arg3 harg3 arg4 harg4 arg5 harg5 arg6 harg6 arg7 harg7) K := by
  simp only [cc1_qkv_eq_skeleton]; unfold cc1_qkv_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_4 _ _ _ _ _ _ _)).trans ?_
    rfl
  isplitl [H5]
  · iexists _; isplitr
    swap; · iexact H5
    ipureintro
    refine (View.read_writes_eq_canon _ _ _ (cover1_5 _)).trans ?_
    rfl
  iexists _; isplitr
  swap; · iexact H6
  ipureintro
  refine (View.read_writes_eq_canon _ _ _ (cover1_6 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => X1_1 V c t
    | ⟨2, _⟩ => iblk1 V c 2 t
    | ⟨3, _⟩ => X1_3 V c t
    | ⟨4, _⟩ => out1_4 (iblk1 V c 0 t) (X1_1 V c t) (iblk1 V c 2 t) (X1_3 V c t)
    | ⟨5, _⟩ => out1_5 (iblk1 V c 0 t) (X1_1 V c t) (iblk1 V c 2 t) (X1_3 V c t)
    | ⟨6, _⟩ => out1_6 (iblk1 V c 0 t) (X1_1 V c t) (iblk1 V c 2 t) (X1_3 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = X1_1 V c t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = X1_3 V c t := by dsimp only [dat1]
theorem after1_4 (c : Dev nD) (t : Fin cfg1.N) : (dat1 V c).after 4 t = out1_4 (iblk1 V c 0 t) (X1_1 V c t) (iblk1 V c 2 t) (X1_3 V c t) := by dsimp only [dat1]
theorem after1_5 (c : Dev nD) (t : Fin cfg1.N) : (dat1 V c).after 5 t = out1_5 (iblk1 V c 0 t) (X1_1 V c t) (iblk1 V c 2 t) (X1_3 V c t) := by dsimp only [dat1]
theorem after1_6 (c : Dev nD) (t : Fin cfg1.N) : (dat1 V c).after 6 t = out1_6 (iblk1 V c 0 t) (X1_1 V c t) (iblk1 V c 2 t) (X1_3 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = X1_1 V c t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = X1_3 V c t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (X1_1 V c t) (iblk1 V c 2 t) (X1_3 V c t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.RegionFfBody.lean ====
/- The body of region 2, the gated hidden layer with its quantiser: what one grid point computes, and that the body
   does so. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- what the core's buffers hold when the region is entered
variable (V : (c : Dev nD) → (b : Ref sig .tc) → Buf (Elt F) ((c : Thread nD τ).loc b))

/-! ## What one grid point computes -/

abbrev r2_a : Rect S1024x3584 := Rect.unit (s := S1024x3584) ![0, 0] S1024x3584.size inb_S1024x3584_S1024x3584_0_0
abbrev r2_b : Rect S128x3584 := Rect.unit (s := S128x3584) ![0, 0] S128x3584.size inb_S128x3584_S128x3584_0_0
abbrev r2_c : Rect S1024x128 := Rect.unit (s := S1024x128) ![0, 0] S1024x128.size inb_S1024x128_S1024x128_0_0
abbrev r2_d : Rect S1x1x128 := Rect.unit (s := S1x1x128) ![0, 0, 0] S1x1x128.size inb_S1x1x128_S1x1x128_0_0_0
abbrev r2_e : Rect S1x1024 := Rect.unit (s := S1x1024) ![0, 0] S1x1024.size inb_S1x1024_S1x1024_0_0

/-- The block of hidden values a point computes from its input blocks. -/
def hOf (x0 : Vec F S1024x3584 .fp8e4m3) (x1 : Vec F S128x3584 .fp8e4m3) (x2 : Vec F S128x3584 .fp8e4m3) (x3 : Vec F S1024x128 .f32) (x4 : Vec F S1x1x128 .f32) (x5 : Vec F S1x1x128 .f32) : FVec F S1024x128 .f32 :=
  k2_pay56 (View.ld x1 r2_b) (View.ld x2 r2_b) (View.ld x0 r2_a) (View.ld x3 r2_c) (View.ld x4 r2_d) (View.ld x5 r2_d)
/-- The same block, as it is stored in a slice of the first scratch buffer. -/
def hOf3 (x0 : Vec F S1024x3584 .fp8e4m3) (x1 : Vec F S128x3584 .fp8e4m3) (x2 : Vec F S128x3584 .fp8e4m3) (x3 : Vec F S1024x128 .f32) (x4 : Vec F S1x1x128 .f32) (x5 : Vec F S1x1x128 .f32) : FVec F S1x1024x128 .f32 :=
  k2_pay57 (View.ld x1 r2_b) (View.ld x2 r2_b) (View.ld x0 r2_a) (View.ld x3 r2_c) (View.ld x4 r2_d) (View.ld x5 r2_d)
/-- The first scratch buffer after a point's block is stored in its slice. -/
def putH (i : grid2.Coords) (s : Vec F S37x1024x128 .f32) (h : FVec F S1x1024x128 .f32) : Vec F S37x1024x128 .f32 :=
  VecWindow.put s (k2_off1 i) S1x1024x128.size h
/-- Whether a point is the first of its rows, as the kernel computes it. -/
def isFirst (i : grid2.Coords) : BitVec 1 := Scalar.cmpi .eq (BitVec.ofNat 32 (i 1).val) 0#32

/-! ## What the last point of a block of rows computes from the scratch buffers -/

/-- The scale of each row, from the largest magnitudes. -/
def scale2 (a : Vec F S1024x128 .f32) : FVec F S1024x1 .f32 :=
  k2_pay12 (k2_pay5 a) (k2_pay6 a) (k2_pay9 (k2_pay6 a) (k2_pay7 a) (k2_pay8 a) 254#32) (k2_pay10 (k2_pay6 a) (k2_pay7 a) (k2_pay8 a) 254#32) 254#32
/-- The reciprocal of each row's scale, over the lanes. -/
def inv2 (a : Vec F S1024x128 .f32) : FVec F S1024x128 .f32 :=
  k2_pay13 (k2_pay5 a) (k2_pay6 a) (k2_pay9 (k2_pay6 a) (k2_pay7 a) (k2_pay8 a) 254#32) (k2_pay10 (k2_pay6 a) (k2_pay7 a) (k2_pay8 a) 254#32) 254#32
theorem inb2_s (j : Fin 37) : ∀ a, (![j.val, 0, 0] : Fin 3 → ℕ) a + S1x1024x128.size a ≤ S37x1024x128.size a := by
  intro a; fin_cases a <;> simp <;> omega
theorem inb2_o (j : Fin 37) : ∀ a, (![0, 128 * j.val] : Fin 2 → ℕ) a + S1024x128.size a ≤ S1024x4736.size a := by
  intro a; fin_cases a <;> simp <;> omega
/-- Slice `j` of the first scratch buffer. -/
abbrev rs2 (j : Fin 37) : Rect S37x1024x128 := Rect.unit (s := S37x1024x128) ![j.val, 0, 0] S1x1024x128.size (inb2_s j)
/-- Column block `j` of the codes. -/
abbrev ro2 (j : Fin 37) : Rect S1024x4736 := Rect.unit (s := S1024x4736) ![0, 128 * j.val] S1024x128.size (inb2_o j)
/-- The stores of the codes, the last first: column block `j` from slice `j`. -/
def codes2 (s : Vec F S37x1024x128 .f32) (a : Vec F S1024x128 .f32) : List (View.Piece (Elt F) S1024x4736 .fp8e4m3) :=
  List.ofFn fun k : Fin 37 => ⟨ro2 k.rev, k2_pay15 (inv2 a) (View.ld s (rs2 k.rev))⟩
/-- The codes' buffer, the scales' row and the scales over the lanes. -/
def out2_6 (s : Vec F S37x1024x128 .f32) (a : Vec F S1024x128 .f32) : Vec F S1024x4736 .fp8e4m3 := View.canon (codes2 s a)
def out2_7 (a : Vec F S1024x128 .f32) : Vec F S1x1024 .f32 := k2_pay4 (scale2 a)
def out2_8 (a : Vec F S1024x128 .f32) : Vec F S1024x128 .f32 := k2_pay3 (scale2 a)

theorem mem_ro2 (y : S1024x4736.Idx) : ∃ j : Fin 37, y ∈ (ro2 j).set := by
  have h0 : (y 0).val < 1024 := (y 0).isLt
  have h1 : (y 1).val < 4736 := (y 1).isLt
  refine ⟨⟨(y 1).val / 128, by omega⟩, Rect.mem_set_unit.mpr fun a => ?_⟩
  fin_cases a <;> simp <;> omega
theorem cover2_6 (s : Vec F S37x1024x128 .f32) (a : Vec F S1024x128 .f32) (y : S1024x4736.Idx) : ∃ pc ∈ codes2 s a, y ∈ pc.1.set := by
  obtain ⟨j, hj⟩ := mem_ro2 y
  refine ⟨⟨ro2 j, k2_pay15 (inv2 a) (View.ld s (rs2 j))⟩, ?_, hj⟩
  unfold codes2
  rw [List.mem_ofFn]
  exact ⟨j.rev, by rw [Fin.rev_rev]⟩

/-! ## The body's triples -/

set_option maxHeartbeats 1000000 in
/-- A point that is not the last of its rows: the block is stored in its slice, the largest magnitudes are brought up to
    date, the outputs are left as they are. -/
theorem run2_mid (c : Dev nD) (E : Set ℕ) (i : grid2.Coords) (arg2 : Memref sig .tc .vmem S1024x3584 .fp8e4m3) (harg2 : arg2.IsWhole) (arg3 : Memref sig .tc .vmem S128x3584 .fp8e4m3) (harg3 : arg3.IsWhole) (arg4 : Memref sig .tc .vmem S128x3584 .fp8e4m3) (harg4 : arg4.IsWhole)
    (arg5 : Memref sig .tc .vmem S1024x128 .f32) (harg5 : arg5.IsWhole) (arg6 : Memref sig .tc .vmem S1x1x128 .f32) (harg6 : arg6.IsWhole) (arg7 : Memref sig .tc .vmem S1x1x128 .f32) (harg7 : arg7.IsWhole)
    (arg8 : Memref sig .tc .vmem S1024x4736 .fp8e4m3) (harg8 : arg8.IsWhole) (arg9 : Memref sig .tc .vmem S1x1024 .f32) (harg9 : arg9.IsWhole) (arg10 : Memref sig .tc .vmem S1024x128 .f32) (harg10 : arg10.IsWhole)
    (arg11 : Memref sig .tc .vmem S37x1024x128 .f32) (harg11 : arg11.IsWhole) (arg12 : Memref sig .tc .vmem S1024x128 .f32) (harg12 : arg12.IsWhole) (hc : ¬ k2_cond1 i = 1#1)
    (x0 : Vec F S1024x3584 .fp8e4m3) (x1 : Vec F S128x3584 .fp8e4m3) (x2 : Vec F S128x3584 .fp8e4m3) (x3 : Vec F S1024x128 .f32) (x4 : Vec F S1x1x128 .f32) (x5 : Vec F S1x1x128 .f32) (d6 : Vec F S1024x4736 .fp8e4m3) (d7 : Vec F S1x1024 .f32) (d8 : Vec F S1024x128 .f32)
    (s : Vec F S37x1024x128 .f32) (a : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare d8 ∗ owns (c : Thread nD τ) arg11 fullShare s ∗ owns (c : Thread nD τ) arg12 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare d8 ∗ owns (c : Thread nD τ) arg11 fullShare (putH i s (hOf3 x0 x1 x2 x3 x4 x5)) ∗ owns (c : Thread nD τ) arg12 fullShare (k2_pay1 (hOf x0 x1 x2 x3 x4 x5) (isFirst i) (View.ld a r2_c))) -∗ K ⟨⟩))
      ⊢ wp frame (wpE (defs₀ (F := F)) Variants.none c none) E (cc2_ff i arg2 harg2 arg3 harg3 arg4 harg4 arg5 harg5 arg6 harg6 arg7 harg7 arg8 harg8 arg9 harg9 arg10 harg10 arg11 harg11 arg12 harg12) K := by
  simp only [cc2_ff_eq_skeleton]; unfold cc2_ff_skel
  simp only [k2_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, H6, H7, H8, ⟨%fs0, %hfs0, HS0⟩, ⟨%fs1, %hfs1, HS1⟩, Hk⟩
  subst hf0 hf1 hf2 hf3 hf4 hf5 hfs0 hfs1
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]; · iexact H6
  isplitl [H7]; · iexact H7
  isplitl [H8]; · iexact H8
  isplitl [HS0]
  · iexists _; isplitr
    swap; · iexact HS0
    ipureintro
    exact (View.read_writes_cons_put _ _ _ _ _ rfl).trans rfl
  iexists _; isplitr
  swap; · iexact HS1
  ipureintro
  exact View.read_writes_full _ _ _ _ _

set_option maxHeartbeats 4000000 in
/-- The last point of its rows: besides that, the codes and the scales are computed from the scratch buffers. -/
theorem run2_last (c : Dev nD) (E : Set ℕ) (i : grid2.Coords) (arg2 : Memref sig .tc .vmem S1024x3584 .fp8e4m3) (harg2 : arg2.IsWhole) (arg3 : Memref sig .tc .vmem S128x3584 .fp8e4m3) (harg3 : arg3.IsWhole) (arg4 : Memref sig .tc .vmem S128x3584 .fp8e4m3) (harg4 : arg4.IsWhole)
    (arg5 : Memref sig .tc .vmem S1024x128 .f32) (harg5 : arg5.IsWhole) (arg6 : Memref sig .tc .vmem S1x1x128 .f32) (harg6 : arg6.IsWhole) (arg7 : Memref sig .tc .vmem S1x1x128 .f32) (harg7 : arg7.IsWhole)
    (arg8 : Memref sig .tc .vmem S1024x4736 .fp8e4m3) (harg8 : arg8.IsWhole) (arg9 : Memref sig .tc .vmem S1x1024 .f32) (harg9 : arg9.IsWhole) (arg10 : Memref sig .tc .vmem S1024x128 .f32) (harg10 : arg10.IsWhole)
    (arg11 : Memref sig .tc .vmem S37x1024x128 .f32) (harg11 : arg11.IsWhole) (arg12 : Memref sig .tc .vmem S1024x128 .f32) (harg12 : arg12.IsWhole) (hc : k2_cond1 i = 1#1)
    (x0 : Vec F S1024x3584 .fp8e4m3) (x1 : Vec F S128x3584 .fp8e4m3) (x2 : Vec F S128x3584 .fp8e4m3) (x3 : Vec F S1024x128 .f32) (x4 : Vec F S1x1x128 .f32) (x5 : Vec F S1x1x128 .f32)
    (s : Vec F S37x1024x128 .f32) (a : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare s ∗ owns (c : Thread nD τ) arg12 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 (putH i s (hOf3 x0 x1 x2 x3 x4 x5)) (k2_pay1 (hOf x0 x1 x2 x3 x4 x5) (isFirst i) (View.ld a r2_c))) ∗ owns (c : Thread nD τ) arg9 fullShare (out2_7 (k2_pay1 (hOf x0 x1 x2 x3 x4 x5) (isFirst i) (View.ld a r2_c))) ∗ owns (c : Thread nD τ) arg10 fullShare (out2_8 (k2_pay1 (hOf x0 x1 x2 x3 x4 x5) (isFirst i) (View.ld a r2_c))) ∗ owns (c : Thread nD τ) arg11 fullShare (putH i s (hOf3 x0 x1 x2 x3 x4 x5)) ∗ owns (c : Thread nD τ) arg12 fullShare (k2_pay1 (hOf x0 x1 x2 x3 x4 x5) (isFirst i) (View.ld a r2_c))) -∗ K ⟨⟩))
      ⊢ wp frame (wpE (defs₀ (F := F)) Variants.none c none) E (cc2_ff i arg2 harg2 arg3 harg3 arg4 harg4 arg5 harg5 arg6 harg6 arg7 harg7 arg8 harg8 arg9 harg9 arg10 harg10 arg11 harg11 arg12 harg12) K := by
  simp only [cc2_ff_eq_skeleton]; unfold cc2_ff_skel
  simp only [k2_part14_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0 hf1 hf2 hf3 hf4 hf5 hfs0 hfs1
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  have eS : arg11.view.read (Elt F) (arg11.view.writes (Elt F) fs0 [⟨Rect.unit (k2_off1 i) S1x1024x128.size (k2_off1_inb i), hOf3 (View.read (Elt F) arg2.view f0) (View.read (Elt F) arg3.view f1) (View.read (Elt F) arg4.view f2) (View.read (Elt F) arg5.view f3) (View.read (Elt F) arg6.view f4) (View.read (Elt F) arg7.view f5)⟩])
      = putH i (View.read (Elt F) arg11.view fs0) (hOf3 (View.read (Elt F) arg2.view f0) (View.read (Elt F) arg3.view f1) (View.read (Elt F) arg4.view f2) (View.read (Elt F) arg5.view f3) (View.read (Elt F) arg6.view f4) (View.read (Elt F) arg7.view f5)) := (View.read_writes_cons_put _ _ _ _ _ rfl).trans rfl
  have eA : arg12.view.readCov (Val := Elt F) [⟨r2_c, k2_pay1 (hOf (View.read (Elt F) arg2.view f0) (View.read (Elt F) arg3.view f1) (View.read (Elt F) arg4.view f2) (View.read (Elt F) arg5.view f3) (View.read (Elt F) arg6.view f4) (View.read (Elt F) arg7.view f5)) (isFirst i) (View.ld (View.read (Elt F) arg12.view fs1) r2_c)⟩] r2_c.toLoadRect
      = k2_pay1 (hOf (View.read (Elt F) arg2.view f0) (View.read (Elt F) arg3.view f1) (View.read (Elt F) arg4.view f2) (View.read (Elt F) arg5.view f3) (View.read (Elt F) arg6.view f4) (View.read (Elt F) arg7.view f5)) (isFirst i) (View.ld (View.read (Elt F) arg12.view fs1) r2_c) := View.readCov_full _ _ _ _ _
  isplitl [H6]
  · iexists _; isplitr
    swap; · iexact H6
    ipureintro
    rw [← eS, ← eA]
    refine Eq.trans (b := arg8.view.read (Elt F) (arg8.view.writes (Elt F) f6 (codes2 _ _))) ?_
      (View.read_writes_eq_canon _ _ _ (cover2_6 _ _))
    rfl
  isplitl [H7]
  · iexists _; isplitr
    swap; · iexact H7
    ipureintro
    rw [← eA]
    exact View.read_writes_full _ _ _ _ _
  isplitl [H8]
  · iexists _; isplitr
    swap; · iexact H8
    ipureintro
    rw [← eA]
    exact View.read_writes_full _ _ _ _ _
  isplitl [HS0]
  · iexists _; isplitr
    swap; · iexact HS0
    ipureintro
    exact eS
  iexists _; isplitr
  swap; · iexact HS1
  ipureintro
  exact View.read_writes_full _ _ _ _ _

end Regions

end Cert.KernelIdeal.Run

end
-- ==== Proof.RegionFf.lean ====
/- Region 2 of the program, the gated hidden layer with its quantiser: what its scratch buffers carry from point to
   point, what its outputs hold (`after2_W`), and that its body does so at every point (`body_obligation2`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value
public import proofs.«01_k».proof.Proof.RegionFfBody

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- what the core's buffers hold when the region is entered
variable (V : (c : Dev nD) → (b : Ref sig .tc) → Buf (Elt F) ((c : Thread nD τ).loc b))

/-! # REGION 2 of @main: custom_call 2, `cc2_ff` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The points' branch, and where the outputs are idle -/

theorem coords2_1 (t : Fin cfg2.N) : (grid2.coords t 1).val = t.val % 37 := by
  have h : (grid2.coords t 1).val = t.val / 1 % 37 := Pipeline.Grid.coords_val t 1 (by decide) rfl
  rw [h, Nat.div_one]
/-- The branch is taken at the last point of each block of rows. -/
theorem hcond2 : ∀ t : Fin cfg2.N, k2_cond1 (grid2.coords t) = 1#1 ↔ t.val % 37 = 36 :=
  (fun t => by
    have ht : t.val < 296 := Nat.lt_of_lt_of_eq t.isLt N_2
    have e1 : (grid2.coords t 1).val = t.val / 1 % 37 := Pipeline.Grid.coords_val t 1 (by decide) rfl
    simp only [k2_cond1, e1]
    word_cmp
   : ∀ t : Fin grid2.N, k2_cond1 (grid2.coords t) = 1#1 ↔ t.val % 37 = 36)
/-- The first point of each block of rows. -/
theorem hfirst2 : ∀ t : Fin cfg2.N, isFirst (grid2.coords t) = 1#1 ↔ t.val % 37 = 0 :=
  (fun t => by
    have ht : t.val < 296 := Nat.lt_of_lt_of_eq t.isLt N_2
    have e1 : (grid2.coords t 1).val = t.val / 1 % 37 := Pipeline.Grid.coords_val t 1 (by decide) rfl
    simp only [isFirst, e1]
    word_cmp
   : ∀ t : Fin grid2.N, isFirst (grid2.coords t) = 1#1 ↔ t.val % 37 = 0)
/-- The slice a point stores its block in. -/
theorem off2 (t : Fin cfg2.N) : k2_off1 (grid2.coords t) = ![t.val % 37, 0, 0] := by
  have e1 := coords2_1 t
  have h : (Scalar.indexCast (BitVec.ofNat 32 (grid2.coords t 1).val) : Index).toNat = t.val % 37 := by
    rw [e1]
    show (BitVec.ofNat 32 (t.val % 37)).toNat = _
    rw [BitVec.toNat_ofNat]
    exact Nat.mod_eq_of_lt (by omega)
  show ![(Scalar.indexCast (BitVec.ofNat 32 (grid2.coords t 1).val) : Index).toNat, 0, 0] = _
  rw [h]

/-! ## What the scratch buffers hold -/

/-- The block of hidden values computed at point `t`. -/
def hblk2 (c : Dev nD) (t : Fin cfg2.N) : FVec F S1024x128 .f32 :=
  hOf (iblk2 V c 0 t) (iblk2 V c 1 t) (iblk2 V c 2 t) (iblk2 V c 3 t) (iblk2 V c 4 t) (iblk2 V c 5 t)
/-- The same, as stored. -/
def hblk2' (c : Dev nD) (t : Fin cfg2.N) : FVec F S1x1024x128 .f32 :=
  hOf3 (iblk2 V c 0 t) (iblk2 V c 1 t) (iblk2 V c 2 t) (iblk2 V c 3 t) (iblk2 V c 4 t) (iblk2 V c 5 t)
/-- The largest magnitudes after point `n`: restarted at the first point of each block of rows. -/
def amax2 (c : Dev nD) : (n : ℕ) → n < cfg2.N → Vec F S1024x128 .f32
  | 0, hn => k2_pay1 (hblk2 V c ⟨0, hn⟩) (isFirst (grid2.coords ⟨0, hn⟩)) (hblk2 V c ⟨0, hn⟩)
  | n + 1, hn => k2_pay1 (hblk2 V c ⟨n + 1, hn⟩) (isFirst (grid2.coords ⟨n + 1, hn⟩)) (amax2 c n (Nat.lt_of_succ_lt hn))
theorem sub2 {n : ℕ} (hn : n < cfg2.N) (j : Fin 37) : n - n % 37 + j.val < cfg2.N := by
  have h : n < 296 := Nat.lt_of_lt_of_eq hn N_2
  show _ < grid2.N
  rw [N_2]; omega
/-- All the blocks of the rows that point `n` belongs to, slice by slice. -/
def hall2 (c : Dev nD) (n : ℕ) (hn : n < cfg2.N) : Vec F S37x1024x128 .f32 :=
  fun y => hblk2' V c ⟨n - n % 37 + (y 0).val, sub2 hn (y 0)⟩ (fun a => match a with | ⟨0, _⟩ => (0 : Fin 1) | ⟨1, _⟩ => y 1 | ⟨2, _⟩ => y 2)

/-- What the scratch buffers hold before point `n`: the slices already stored since the first point of its rows, and
    (but at such a first point) the largest magnitudes so far. -/
def Inv2 (c : Dev nD) (n : ℕ) (s : Vec F S37x1024x128 .f32) (a : Vec F S1024x128 .f32) : Prop :=
  n % 37 ≠ 0 → ∃ hn : n - 1 < cfg2.N, a = amax2 V c (n - 1) hn ∧
    ∀ y : S37x1024x128.Idx, (y 0).val < n % 37 → s y = hall2 V c (n - 1) hn y

/-- At the first point of some rows the old contents do not matter. -/
theorem pay1_first (v : FVec F S1024x128 .f32) {b : BitVec 1} (hb : b = 1#1) (a a' : Vec F S1024x128 .f32) : k2_pay1 v b a = k2_pay1 v b a' := by
  subst hb; rfl

theorem amax2_step (c : Dev nD) (t : Fin cfg2.N) (s : Vec F S37x1024x128 .f32) (a : Vec F S1024x128 .f32) (h : Inv2 V c t.val s a) :
    k2_pay1 (hblk2 V c t) (isFirst (grid2.coords t)) (View.ld a r2_c) = amax2 V c t.val t.isLt := by
  have hz : (![0, 0] : Fin 2 → Nat) = fun _ => 0 := funext fun a => by fin_cases a <;> rfl
  rw [View.ld_unit_zero (S := S1024x128) hz]
  obtain ⟨n, hn⟩ := t
  by_cases h0 : n % 37 = 0
  · cases n with
    | zero => exact pay1_first _ ((hfirst2 _).mpr h0) _ _
    | succ n => exact pay1_first _ ((hfirst2 _).mpr h0) _ _
  · cases n with
    | zero => exact absurd (Nat.zero_mod _) h0
    | succ n =>
      obtain ⟨hn', ha, -⟩ := h h0
      subst ha
      rfl

theorem hall2_step (c : Dev nD) (t : Fin cfg2.N) (s : Vec F S37x1024x128 .f32) (a : Vec F S1024x128 .f32) (h : Inv2 V c t.val s a)
    (y : S37x1024x128.Idx) (hy : (y 0).val ≤ t.val % 37) :
    putH (grid2.coords t) s (hblk2' V c t) y = hall2 V c t.val t.isLt y := by
  unfold putH
  have h1 : (y 1).val < 1024 := (y 1).isLt
  have h2 : (y 2).val < 128 := (y 2).isLt
  rw [off2]
  rcases Nat.lt_or_ge (y 0).val (t.val % 37) with hlt | hge
  · rw [VecWindow.put, dif_neg (by intro hh; have := (hh 0).1; simp at this; omega)]
    obtain ⟨hn', -, hs⟩ := h (by omega)
    rw [hs y hlt]
    unfold hall2
    congr 2
    show t.val - 1 - (t.val - 1) % 37 + (y 0).val = t.val - t.val % 37 + (y 0).val
    omega
  · have e0 : (y 0).val = t.val % 37 := by omega
    rw [VecWindow.put, dif_pos (by intro a; fin_cases a <;> simp <;> omega)]
    unfold hall2
    have et : (⟨t.val - t.val % 37 + (y 0).val, sub2 t.isLt (y 0)⟩ : Fin cfg2.N) = t := by
      apply Fin.ext
      show t.val - t.val % 37 + (y 0).val = t.val
      have := Nat.mod_le t.val 37
      omega
    rw [et]
    congr 1
    funext a
    apply Fin.ext
    rw [Rect.unitLocal_val]
    fin_cases a
    · show (y 0).val - t.val % 37 = 0; omega
    · show (y 1).val - 0 = (y 1).val; omega
    · show (y 2).val - 0 = (y 2).val; omega

/-- The invariant passes from a point to the next. -/
theorem inv2_succ (c : Dev nD) (t : Fin cfg2.N) (s : Vec F S37x1024x128 .f32) (a : Vec F S1024x128 .f32) (h : Inv2 V c t.val s a) :
    Inv2 V c (t.val + 1) (putH (grid2.coords t) s (hblk2' V c t)) (k2_pay1 (hblk2 V c t) (isFirst (grid2.coords t)) (View.ld a r2_c)) := by
  intro hne
  refine ⟨t.isLt, amax2_step V c t s a h, fun y hy => hall2_step V c t s a h y ?_⟩
  omega
/-- At the last point of some rows every slice is stored. -/
theorem hall2_last (c : Dev nD) (t : Fin cfg2.N) (ht : t.val % 37 = 36) (s : Vec F S37x1024x128 .f32) (a : Vec F S1024x128 .f32) (h : Inv2 V c t.val s a) :
    putH (grid2.coords t) s (hblk2' V c t) = hall2 V c t.val t.isLt :=
  funext fun y => hall2_step V c t s a h y (by have : (y 0).val < 37 := (y 0).isLt; omega)

/-! ## The pipeline's proof data -/

abbrev scM2_0 : Memref sig .tc .vmem S37x1024x128 .f32 := Memref.whole cc2_scratch0
abbrev scM2_1 : Memref sig .tc .vmem S1024x128 .f32 := Memref.whole cc2_scratch1

/-- The invariant before point `n`: the scratch buffers as `Inv2` says, the other scoped buffers and the generator
    register at anything. -/
def Phi2 (c : Dev nD) (n : ℕ) : sProp 𝕄 :=
  iprop((∃ s a, ⌜Inv2 V c n s a⌝ ∗ owns (c : Thread nD τ) scM2_0 fullShare s ∗ owns (c : Thread nD τ) scM2_1 fullShare a)
    ∗ Pipeline.scopedRestBut (Ix := Unit) (Name := ℕ) (U := UR sig nD τ) (Lvl := ℕ) (Val := Elt F) spec2 c [cc2_scratch0, cc2_scratch1]
    ∗ (∃ r, prngReg c r))

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- It holds before the first point of some rows whatever the scratch buffers hold, -/
theorem Phi2_in (c : Dev nD) (n : ℕ) (hn : n % 37 = 0) : (Pipeline.ΦA spec2 c : sProp 𝕄) ⊢ Phi2 V c n := by
  rw [PhiA2_eq]; unfold Phi2
  iintro ⟨⟨⟨⟨%s, Hs⟩, ⟨%a, Ha⟩⟩, Hr⟩, Hp⟩
  isplitl [Hs Ha]
  · iexists s, a
    isplitr
    · ipureintro; exact fun h => absurd hn h
    isplitl [Hs]; · iexact Hs
    iexact Ha
  isplitl [Hr]; · iexact Hr
  iexact Hp
/-- and leaves them at something. -/
theorem Phi2_out (c : Dev nD) (n : ℕ) : Phi2 V c n ⊢ (Pipeline.ΦA spec2 c : sProp 𝕄) := by
  rw [PhiA2_eq]; unfold Phi2
  iintro ⟨⟨%s, %a, -, Hs, Ha⟩, Hr, Hp⟩
  isplitr [Hp]
  · isplitr [Hr]
    · isplitl [Hs]; · iexists s; iexact Hs
      iexists a; iexact Ha
    iexact Hr
  iexact Hp

/-- The proof data of pipeline 2 on core `c`: the arrays as the region finds them; after the last point of some rows the
    outputs' buffers as the scratch buffers then make them (at the others they are idle); the windows' shares of the
    arrays two of them read. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (hall2 V c t.val t.isLt) (amax2 V c t.val t.isLt)
    | ⟨7, _⟩ => out2_7 (amax2 V c t.val t.isLt)
    | ⟨8, _⟩ => out2_8 (amax2 V c t.val t.isLt)
  Φ t := Phi2 V c t.val
  q w := Pipeline.shareOf spec2 w
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (hall2 V c t.val t.isLt) (amax2 V c t.val t.isLt) := by dsimp only [dat2]
theorem after2_7 (c : Dev nD) (t : Fin cfg2.N) : (dat2 V c).after 7 t = out2_7 (amax2 V c t.val t.isLt) := by dsimp only [dat2]
theorem after2_8 (c : Dev nD) (t : Fin cfg2.N) : (dat2 V c).after 8 t = out2_8 (amax2 V c t.val t.isLt) := by dsimp only [dat2]
theorem Phi2_eq (c : Dev nD) (t : Fin (cfg2.N + 1)) : (dat2 V c).Φ t = Phi2 V c t.val := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))
/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ (dat2 V c).leavesExact 6 t
    ∗ (dat2 V c).leavesExact 7 t
    ∗ (dat2 V c).leavesExact 8 t)

/-- Output 6 at a point that is not the last of its rows: as found; -/
theorem leaves2_6_mid (c : Dev nD) (t : Fin cfg2.N) (h : ¬ t.val % 37 = 36) :
    (dat2 V c).leavesExact 6 t = iprop(∃ d, owns (c : Thread nD τ) (st2_6 t) fullShare ((dat2 V c).before 6 t d)) := by
  refine (dat2 V c).leavesExact_idle 6 t ?_ ?_
  · show (!(k2_cond1 (grid2.coords t) == 1#1)) = true
    rw [Bool.not_eq_true', beq_eq_false_iff_ne]
    exact fun hh => h ((hcond2 t).mp hh)
  · exact Bool.eq_false_iff.mpr fun hh => h ((flush2_6 t).mp hh)
/-- at the last one: as the proof data says. -/
theorem leaves2_6_last (c : Dev nD) (t : Fin cfg2.N) (h : t.val % 37 = 36) :
    (dat2 V c).leavesExact 6 t = owns (c : Thread nD τ) (st2_6 t) fullShare ((dat2 V c).after 6 t) := by
  have hi : cfg2.idle 6 (cfg2.grid.coords t) = false := by
    show (!(k2_cond1 (grid2.coords t) == 1#1)) = false
    rw [Bool.not_eq_false', beq_iff_eq]
    exact (hcond2 t).mpr h
  unfold Dat.leavesExact; rw [hi]

/-- Output 7 at a point that is not the last of its rows: as found; -/
theorem leaves2_7_mid (c : Dev nD) (t : Fin cfg2.N) (h : ¬ t.val % 37 = 36) :
    (dat2 V c).leavesExact 7 t = iprop(∃ d, owns (c : Thread nD τ) (st2_7 t) fullShare ((dat2 V c).before 7 t d)) := by
  refine (dat2 V c).leavesExact_idle 7 t ?_ ?_
  · show (!(k2_cond1 (grid2.coords t) == 1#1)) = true
    rw [Bool.not_eq_true', beq_eq_false_iff_ne]
    exact fun hh => h ((hcond2 t).mp hh)
  · exact Bool.eq_false_iff.mpr fun hh => h ((flush2_7 t).mp hh)
/-- at the last one: as the proof data says. -/
theorem leaves2_7_last (c : Dev nD) (t : Fin cfg2.N) (h : t.val % 37 = 36) :
    (dat2 V c).leavesExact 7 t = owns (c : Thread nD τ) (st2_7 t) fullShare ((dat2 V c).after 7 t) := by
  have hi : cfg2.idle 7 (cfg2.grid.coords t) = false := by
    show (!(k2_cond1 (grid2.coords t) == 1#1)) = false
    rw [Bool.not_eq_false', beq_iff_eq]
    exact (hcond2 t).mpr h
  unfold Dat.leavesExact; rw [hi]

/-- Output 8 at a point that is not the last of its rows: as found; -/
theorem leaves2_8_mid (c : Dev nD) (t : Fin cfg2.N) (h : ¬ t.val % 37 = 36) :
    (dat2 V c).leavesExact 8 t = iprop(∃ d, owns (c : Thread nD τ) (st2_8 t) fullShare ((dat2 V c).before 8 t d)) := by
  refine (dat2 V c).leavesExact_idle 8 t ?_ ?_
  · show (!(k2_cond1 (grid2.coords t) == 1#1)) = true
    rw [Bool.not_eq_true', beq_eq_false_iff_ne]
    exact fun hh => h ((hcond2 t).mp hh)
  · exact Bool.eq_false_iff.mpr fun hh => h ((flush2_8 t).mp hh)
/-- at the last one: as the proof data says. -/
theorem leaves2_8_last (c : Dev nD) (t : Fin cfg2.N) (h : t.val % 37 = 36) :
    (dat2 V c).leavesExact 8 t = owns (c : Thread nD τ) (st2_8 t) fullShare ((dat2 V c).after 8 t) := by
  have hi : cfg2.idle 8 (cfg2.grid.coords t) = false := by
    show (!(k2_cond1 (grid2.coords t) == 1#1)) = false
    rw [Bool.not_eq_false', beq_iff_eq]
    exact (hcond2 t).mpr h
  unfold Dat.leavesExact; rw [hi]

set_option maxHeartbeats 1000000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl,
    after2_0, after2_1, after2_2, after2_3, after2_4, after2_5, Phi2_eq, Phi2_eq]
  rw [show t.succ.val = t.val + 1 from rfl, show t.castSucc.val = t.val from rfl]
  unfold Phi2
  by_cases ht : t.val % 37 = 36
  · rw [leaves2_6_last V c t ht, leaves2_7_last V c t ht, leaves2_8_last V c t ht, after2_6, after2_7, after2_8]
    iintro ⟨⟨⟨%s, %a, %hI, Hs, Ha⟩, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [← hall2_last V c t ht s a hI, ← amax2_step V c t s a hI]
    iapply (run2_last c Set.univ (grid2.coords t) _ _ _ _ _ _ _ _ _ _ _ _ _ _ _ _ _ _ scM2_0 (Memref.isWhole_whole _) scM2_1 (Memref.isWhole_whole _) ((hcond2 t).mpr ht) (iblk2 V c 0 t) (iblk2 V c 1 t) (iblk2 V c 2 t) (iblk2 V c 3 t) (iblk2 V c 4 t) (iblk2 V c 5 t) s a _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [Hs]; · iexact Hs
    isplitl [Ha]; · iexact Ha
    iintro ⟨H0, H1, H2, H3, H4, H5, H6, H7, H8, Hs, Ha⟩
    isplitl [Hs Ha Hr Hp]
    · isplitl [Hs Ha]
      · iexists _, _
        isplitr
        · ipureintro; exact inv2_succ V c t s a hI
        isplitl [Hs]; · iexact Hs
        iexact Ha
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [leaves2_6_mid V c t ht, leaves2_7_mid V c t ht, leaves2_8_mid V c t ht]
    iintro ⟨⟨⟨%s, %a, %hI, Hs, Ha⟩, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run2_mid c Set.univ (grid2.coords t) _ _ _ _ _ _ _ _ _ _ _ _ _ _ _ _ _ _ scM2_0 (Memref.isWhole_whole _) scM2_1 (Memref.isWhole_whole _) (fun hh => ht ((hcond2 t).mp hh)) (iblk2 V c 0 t) (iblk2 V c 1 t) (iblk2 V c 2 t) (iblk2 V c 3 t) (iblk2 V c 4 t) (iblk2 V c 5 t) _ _ _ s a _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hs]; · iexact Hs
    isplitl [Ha]; · iexact Ha
    iintro ⟨H0, H1, H2, H3, H4, H5, H6, H7, H8, Hs, Ha⟩
    isplitl [Hs Ha Hr Hp]
    · isplitl [Hs Ha]
      · iexists _, _
        isplitr
        · ipureintro; exact inv2_succ V c t s a hI
        isplitl [Hs]; · iexact Hs
        iexact Ha
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8

theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.RegionDown.lean ====
/- Region 3 of the program, the down projection: what one grid point leaves in its output buffer (`out3_W`),
   and that its body does so at every point (`body_obligation3`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- what the core's buffers hold when the region is entered
variable (V : (c : Dev nD) → (b : Ref sig .tc) → Buf (Elt F) ((c : Thread nD τ).loc b))

/-! # REGION 3 of @main: custom_call 3, `cc3_down` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1024x4736 := Rect.unit (s := S1024x4736) ![0, 0] S1024x4736.size inb_S1024x4736_S1024x4736_0_0
abbrev r3_1 : Rect S512x4736 := Rect.unit (s := S512x4736) ![0, 0] S512x4736.size inb_S512x4736_S512x4736_0_0
abbrev r3_2 : Rect S1024x128 := Rect.unit (s := S1024x128) ![0, 0] S1024x1.size inb_S1024x128_S1024x1_0_0
abbrev r3_3 : Rect S1024x512 := Rect.unit (s := S1024x512) ![0, 0] S1024x512.size inb_S1024x512_S1024x512_0_0
abbrev r3_4 : Rect S1x512 := Rect.unit (s := S1x512) ![0, 0] S1x512.size inb_S1x512_S1x512_0_0

/-! ## What the body leaves in each output window's buffer -/

/-- Window 5's staging buffer after the body, from the input windows' blocks: its 1 store as pieces, LAST
    FIRST (Lib/Pipeline/FrameBody.lean `View.canon`; the payloads are the skeleton's). -/
def out3_5 (x0 : Vec F S1024x4736 .fp8e4m3) (x1 : Vec F S512x4736 .fp8e4m3) (x2 : Vec F S1024x128 .f32) (x3 : Vec F S1x512 .f32) (x4 : Vec F S1024x512 .bf16) : Vec F S1024x512 .bf16 :=
  View.canon [⟨r3_3, k3_pay1 (View.ld x0 r3_0) (View.ld x1 r3_1) (View.ld x2 r3_2) (View.ld x4 r3_3) (View.ld x3 r3_4)⟩]

/-- Its stores tile the buffer (checked by evaluation), so they cover it. -/
theorem cover3_5 (p0 : Vec F S1024x512 .bf16) (y : S1024x512.Idx) :
    ∃ pc ∈ ([⟨r3_3, p0⟩] : List (View.Piece (Elt F) S1024x512 .bf16)), y ∈ pc.1.set :=
  View.cover_of_tiled [⟨r3_3, p0⟩] S1024x512.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg2 : Memref sig .tc .vmem S1024x4736 .fp8e4m3) (harg2 : arg2.IsWhole) (arg3 : Memref sig .tc .vmem S512x4736 .fp8e4m3) (harg3 : arg3.IsWhole) (arg4 : Memref sig .tc .vmem S1024x128 .f32) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .bf16) (harg7 : arg7.IsWhole)
    (x0 : Vec F S1024x4736 .fp8e4m3) (x1 : Vec F S512x4736 .fp8e4m3) (x2 : Vec F S1024x128 .f32) (x3 : Vec F S1x512 .f32) (x4 : Vec F S1024x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out3_5 x0 x1 x2 x3 x4)) -∗ K ⟨⟩))
      ⊢ wp frame (wpE (defs₀ (F := F)) Variants.none c none) E (cc3_down i arg2 harg2 arg3 harg3 arg4 harg4 arg5 harg5 arg6 harg6 arg7 harg7) K := by
  simp only [cc3_down_eq_skeleton]; unfold cc3_down_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Run

end
-- ==== Proof.Run.lean ====
/- The run of the whole program: what every array holds at each boundary of the four pipelined regions (`W0` … `W7`), and
   that @main ends with the arrays at the last boundary's contents (`run`), its arguments unchanged (`frame`). -/
module

public import proofs.«01_k».proof.Proof.RegionNorm
public import proofs.«01_k».proof.Proof.RegionQkv
public import proofs.«01_k».proof.Proof.RegionFf
public import proofs.«01_k».proof.Proof.RegionDown
public import proofs.«01_k».proof.Proof.Gen.KernelIdeal.Regions
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v6]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact (dat2 (V4 m ρ) c).withArrays_arrAt launch₀2.sharedIn _ (A_eq2 (V4 m ρ) c) w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays_shared`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references (what region 3's proof data take). -/
abbrev V6 : (c : Dev nD) → (b : Ref sig .tc) → Buf (Elt F) ((c : Thread nD τ).loc b) := fun c b => W6 m ρ c b
/-- At region 3's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A reference that is none of region 3's OUTPUT arrays keeps its entry contents across it: an input window's
    array is never written back (`Dat.arrAt_in`, `A_eq3`); any other buffer is left as is. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs_shared`) and put back at the exit contents (`unscopedBufs_of_arrays_shared`; its input windows on one array (`launch₀2.sharedIn`) each dealt their share of it, `Pipeline.shareOf`, by the proof data); the generator register into the
    class invariant `ΦA` and out; nothing owed; no semaphore of the kernel's own. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Phi2 (V4 m ρ) c 0 from rfl]
    refine .trans ?_ (Phi2_in (V4 m ρ) c 0 rfl)
    unfold Pipeline.ΦA
    iintro ⟨Hp, -, Hr⟩
    isplitl [Hr]; · iexact Hr
    iexact Hp
  hout c := by
    rw [Pipeline.ownSems0_none, show (pdats m ρ 2 c).Φ (Fin.last _) = Phi2 (V4 m ρ) c cfg2.N from rfl]
    refine (Phi2_out (V4 m ρ) c cfg2.N).trans ?_
    unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W6`, left at `W7`
    (what the launch reads at the end). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters, every weakly fair execution of @main on the TensorCores terminates,
    nothing faulting; in every final state the result arrays hold what the boundary contents `W7` say, the argument arrays
    are as launched, and every semaphore counter is zero. -/
theorem run : θ_run defs (onTc (τ := τ) (main (F := F))) ⟨m, fun _ => 0, ρ⟩ (fun r => (∀ c : Dev nD,
      r.2.mem ((c.tc : Thread nD τ).loc main_v4_0) = W7 m ρ c (Proc.devRef .tc main_v4_0)
      ∧ r.2.mem ((c.tc : Thread nD τ).loc main_v4_1) = W7 m ρ c (Proc.devRef .tc main_v4_1)
      ∧ r.2.mem ((c.tc : Thread nD τ).loc main_v4_2) = W7 m ρ c (Proc.devRef .tc main_v4_2)
      ∧ r.2.mem ((c.tc : Thread nD τ).loc main_v7) = W7 m ρ c (Proc.devRef .tc main_v7)
      ∧ r.2.mem ((c.tc : Thread nD τ).loc main_v2_0) = W7 m ρ c (Proc.devRef .tc main_v2_0)
      ∧ r.2.mem ((c.tc : Thread nD τ).loc main_v2_1) = W7 m ρ c (Proc.devRef .tc main_v2_1)
      ∧ r.2.mem ((c.tc : Thread nD τ).loc main_v5_0) = W7 m ρ c (Proc.devRef .tc main_v5_0)
      ∧ r.2.mem ((c.tc : Thread nD τ).loc main_v5_1) = W7 m ρ c (Proc.devRef .tc main_v5_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v4_0 (by decide)),
       h c _ (mem_uc main_v4_1 (by decide)),
       h c _ (mem_uc main_v4_2 (by decide)),
       h c _ (mem_uc main_v7 (by decide)),
       h c _ (mem_uc main_v2_0 (by decide)),
       h c _ (mem_uc main_v2_1 (by decide)),
       h c _ (mem_uc main_v5_0 (by decide)),
       h c _ (mem_uc main_v5_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩), funext fun g => hz g (.inr (no_unscoped g.2))⟩)

/-- THE FRAME: the same without the results. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2.2.2.2.2.2.2.2, h.2⟩) (run m ρ)

end Cert.KernelIdeal.Run

end
-- ==== Proof.KernelFrame.lean ====
/- The kernel at its own number format: it terminates without fault and leaves its arguments unchanged. The program is
   the ideal one's text, whose frame is proved at every format. -/
module

public import proofs.«01_k».proof.Proof.Run
public import proofs.«01_k».proof.Proof.Gen.Kernel
public import proofs.«01_k».proof.Kernel
public import Idealize.ShloMosaic.Lib.Tactic

@[expose] public section

noncomputable section

namespace Cert.Kernel.Run

open Idealize.ShloMosaic Idealize.ShloMosaic.TcCoe
open Idealize.ShloMosaic.Tactic Idealize.SL Idealize.SL.Sem

variable {F : FTy → Type} [FloatOps F]
variable (m : (ℓ : Loc nD τ sig) → Buf (Elt F) ℓ) (ρ : Dev nD → PrngReg)

/-- The kernel ends, with its arguments as they were. -/
theorem frame : θ_run defs (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Eq.mpr (by sl_kernel_rfl) (Cert.KernelIdeal.Run.frame (F := F) m ρ)

end Cert.Kernel.Run
end
-- ==== Proof.Scale.lean ====
/- The quantiser's scale over the extended reals. `scaleOf a` is the reference's: the least power of two above
   `a / 448`, or one outside the normal range. The kernel finds its exponent by eight comparisons against numbers built
   from their exponent bits; `vscale_apply` and `vinv_apply` say that it finds the same scale and its reciprocal. -/
module

public import Idealize.ShloMosaic.PureOps.Ideal
public import Idealize.ShloMosaic.Lib.Pointwise
public import Mathlib.Data.Finset.Fold

@[expose] public section

noncomputable section

open Idealize.ShloMosaic

namespace Cert.Spec

/-! ## The reference's scale -/

/-- The `k`-th power of two the scale is looked for among. -/
def power (k : Fin 253) : EReal := Ideal.exp2 (((BitVec.ofNat 32 k.val - 125#32).toInt : ℝ) : EReal)
/-- `x` times the nearest f32 to 1/448. -/
def over448 (a : EReal) : EReal := a * Ideal.ofBits FTy.f32 991054117#32
/-- The scale of a row whose largest magnitude is `a`. -/
def scaleOf (a : EReal) : EReal :=
  if Ideal.ofBits FTy.f32 8388608#32 ≤ over448 a ∧ over448 a < Ideal.ofBits FTy.f32 2130706432#32 then
    Finset.univ.fold min (Ideal.ofBits FTy.f32 2139095040#32)
      (fun k => if over448 a < power k then power k else Ideal.ofBits FTy.f32 2139095040#32)
  else 1
/-- The reciprocal of a scale, numbers below the smallest normal one counting as zero. -/
def invOf (s : EReal) : EReal := if Ideal.ofBits FTy.f32 8388608#32 ≤ Ideal.div 1 s then Ideal.div 1 s else 0

/-! ## Powers of two and their bits -/

/-- The power of two whose f32 exponent field is `c`. -/
def pw (c : ℕ) : ℝ := (2 : ℝ) ^ ((c : ℤ) - 127)

theorem pw_pos (c : ℕ) : 0 < pw c := by unfold pw; positivity
theorem pw_lt {c d : ℕ} (h : c < d) : pw c < pw d := by
  unfold pw; exact zpow_lt_zpow_right₀ (by norm_num) (by omega)
theorem pw_le {c d : ℕ} (h : c ≤ d) : pw c ≤ pw d := by
  unfold pw; exact zpow_le_zpow_right₀ (by norm_num) (by omega)

theorem field_bits : ∀ c : Fin 255, ((BitVec.ofNat 32 c.val <<< 23).extractLsb' 31 1 == 1#1) = false
    ∧ ((BitVec.ofNat 32 c.val <<< 23).extractLsb' 23 8).toNat = c.val ∧ ((BitVec.ofNat 32 c.val <<< 23).extractLsb' 0 23).toNat = 0 := by
  decide +kernel

theorem ieee_of_fields (x : BitVec 32) (c : ℕ) (h1 : 1 ≤ c) (h2 : c ≤ 254) (ha : (x.extractLsb' 31 1 == 1#1) = false)
    (hb : (x.extractLsb' 23 8).toNat = c) (hc : (x.extractLsb' 0 23).toNat = 0) : Ideal.ieee 8 23 x = ((pw c : ℝ) : EReal) := by
  unfold Ideal.ieee
  simp only [Nat.reduceAdd, ha, hb, hc]
  rw [if_neg (by norm_num; omega), if_neg (by omega)]
  congr 1
  unfold pw
  simp only [Bool.false_eq_true, if_false, Nat.add_zero, one_mul]
  rw [show ((c : ℤ) - 127) = 23 + ((c : ℤ) - (2 ^ (8 - 1) - 1) - 23) by norm_num, zpow_add₀ (by norm_num)]
  norm_num
/-- The number whose exponent field is `c` and whose other bits are zero. -/
theorem ofBits_shift (c : ℕ) (h1 : 1 ≤ c) (h2 : c ≤ 254) : Ideal.ofBits FTy.f32 (BitVec.ofNat 32 c <<< 23) = ((pw c : ℝ) : EReal) :=
  ieee_of_fields _ c h1 h2 (field_bits ⟨c, by omega⟩).1 (field_bits ⟨c, by omega⟩).2.1 (field_bits ⟨c, by omega⟩).2.2
theorem ofBits_zero : Ideal.ofBits FTy.f32 (0#32) = 0 := by simp [Ideal.ofBits, Ideal.ieee]
theorem ofBits_min : Ideal.ofBits FTy.f32 8388608#32 = ((pw 1 : ℝ) : EReal) := ofBits_shift 1 (by norm_num) (by norm_num)
theorem ofBits_max : Ideal.ofBits FTy.f32 2130706432#32 = ((pw 254 : ℝ) : EReal) := ofBits_shift 254 (by norm_num) (by norm_num)
theorem ofBits_top : Ideal.ofBits FTy.f32 2139095040#32 = ⊤ := by simp [Ideal.ofBits, Ideal.ieee]
theorem pw_127 : pw 127 = 1 := by unfold pw; norm_num

theorem toInt_power : ∀ k : Fin 253, (BitVec.ofNat 32 k.val - 125#32).toInt = (k.val : ℤ) - 125 := by decide +kernel
theorem power_eq (k : Fin 253) : power k = ((pw (k.val + 2) : ℝ) : EReal) := by
  unfold power
  rw [toInt_power, Ideal.exp2_coe]
  congr 1
  unfold pw
  show (2 : ℝ) ^ (((k.val : ℤ) - 125 : ℤ) : ℝ) = _
  rw [Real.rpow_intCast]
  congr 1
  push_cast; ring

/-! ## The search for the exponent field, over the naturals -/

/-- `x` is at least the number of exponent field `c` (254 standing for 255 too). -/
def Reach (x : EReal) (c : ℕ) : Prop := ((pw (min c 254) : ℝ) : EReal) ≤ x

/-- After a step of width `w`: the field found is reached, and the one `w` above it is not or does not exist. -/
def Found (x : EReal) (w f : ℕ) : Prop := (f = 0 ∨ Reach x f) ∧ (f + w = 256 ∨ f + w < 256 ∧ ¬ Reach x (f + w))

open Classical in
theorem found_step (x : EReal) (b f : ℕ) (hb : 0 < b) (h : Found x (2 * b) f) : Found x b (if Reach x (f + b) then f + b else f) := by
  obtain ⟨h1, h2⟩ := h
  by_cases hr : Reach x (f + b)
  · rw [if_pos hr]
    refine ⟨.inr hr, ?_⟩
    rw [show f + b + b = f + 2 * b by ring]
    exact h2
  · rw [if_neg hr]
    refine ⟨h1, .inr ⟨?_, hr⟩⟩
    omega

/-! ## One comparison of the kernel -/

/-- One comparison: raise the field `f` by `b` where `x` is at least the number of that field. -/
def lstep {F : FTy → Type} [FloatOps F] {s : Shape} (x : FVec F s .f32) (b : BitVec 32) (f : IVec s 32) : IVec s 32 :=
  select (cmpf .oge x (bitcastToFloat .f32 (shli (minsi (addi f (broadcast s b)) (broadcast s 254#32)) (broadcast s 23#32))))
    (addi f (broadcast s b)) f

theorem min_bits : ∀ n : Fin 256, IntOp.minsi (BitVec.ofNat 32 n.val) 254#32 = BitVec.ofNat 32 (min n.val 254) := by decide +kernel

theorem lstep_apply {s : Shape} (x : FVec Ideal s .f32) (b : BitVec 32) (f : IVec s 32) (i : s.Idx) :
    lstep x b f i = if Ideal.ofBits FTy.f32 (IntOp.minsi (f i + b) 254#32 <<< 23) ≤ x i then f i + b else f i := by
  show (if BitVec.ofBool (decide (Ideal.ofBits FTy.f32 (IntOp.minsi (f i + b) 254#32 <<< 23) ≤ x i)) = 1#1 then f i + b else f i) = _
  by_cases h : Ideal.ofBits FTy.f32 (IntOp.minsi (f i + b) 254#32 <<< 23) ≤ x i
  · simp [h]
  · simp [h]

open Classical in
theorem lstep_found {s : Shape} (x : FVec Ideal s .f32) (b : ℕ) (hb : 0 < b) (f : IVec s 32) (i : s.Idx)
    (h : ∃ n, f i = BitVec.ofNat 32 n ∧ Found (x i) (2 * b) n) : ∃ n, lstep x (BitVec.ofNat 32 b) f i = BitVec.ofNat 32 n ∧ Found (x i) b n := by
  obtain ⟨n, hn, hf⟩ := h
  refine ⟨_, ?_, found_step (x i) b n hb hf⟩
  have hlt : n + b < 256 := by rcases hf.2 with h | h <;> omega
  rw [lstep_apply, hn, ← BitVec.ofNat_add, min_bits ⟨n + b, hlt⟩, ofBits_shift _ (by simp only; omega) (by simp only; omega)]
  unfold Reach
  split_ifs <;> rfl

/-- The field the eight comparisons find. -/
def vfield {F : FTy → Type} [FloatOps F] {s : Shape} (x : FVec F s .f32) : IVec s 32 :=
  lstep x 1#32 (lstep x 2#32 (lstep x 4#32 (lstep x 8#32 (lstep x 16#32 (lstep x 32#32 (lstep x 64#32 (lstep x 128#32 (broadcast s 0#32))))))))

theorem vfield_found {s : Shape} (x : FVec Ideal s .f32) (i : s.Idx) : ∃ n, vfield x i = BitVec.ofNat 32 n ∧ Found (x i) 1 n := by
  unfold vfield
  refine lstep_found x 1 (by norm_num) _ i (lstep_found x 2 (by norm_num) _ i (lstep_found x 4 (by norm_num) _ i (lstep_found x 8 (by norm_num) _ i
    (lstep_found x 16 (by norm_num) _ i (lstep_found x 32 (by norm_num) _ i (lstep_found x 64 (by norm_num) _ i (lstep_found x 128 (by norm_num) _ i ?_)))))))
  exact ⟨0, rfl, .inl rfl, .inl rfl⟩

/-- The field with the corner cases put to that of one half. -/
def vfix {F : FTy → Type} [FloatOps F] {s : Shape} (a : FVec F s .f32) (f : IVec s 32) : IVec s 32 :=
  select (ori (ori (cmpi .eq f (broadcast s 0#32)) (cmpi .eq f (broadcast s 255#32))) (cmpf .oeq a (broadcast s (Scalar.ofBits .f32 0x00000000#32))))
    (broadcast s 126#32) f
/-- The kernel's scale, -/
def vscale {F : FTy → Type} [FloatOps F] {s : Shape} (a : FVec F s .f32) (f : IVec s 32) : FVec F s .f32 :=
  bitcastToFloat .f32 (shli (addi (vfix a f) (broadcast s 1#32)) (broadcast s 23#32))
/-- and its reciprocal. -/
def vinv {F : FTy → Type} [FloatOps F] {s : Shape} (a : FVec F s .f32) (f : IVec s 32) : FVec F s .f32 :=
  bitcastToFloat .f32 (shli (subi (broadcast s 253#32) (vfix a f)) (broadcast s 23#32))

theorem vscale_def {s : Shape} (a : FVec Ideal s .f32) (f : IVec s 32) (i : s.Idx) :
    vscale a f i = Ideal.ofBits FTy.f32 ((vfix a f i + 1#32) <<< 23) := rfl
theorem vinv_def {s : Shape} (a : FVec Ideal s .f32) (f : IVec s 32) (i : s.Idx) :
    vinv a f i = Ideal.ofBits FTy.f32 ((253#32 - vfix a f i) <<< 23) := rfl
theorem vfix_apply {s : Shape} (a : FVec Ideal s .f32) (f : IVec s 32) (i : s.Idx) :
    vfix a f i = if f i = 0#32 ∨ f i = 255#32 ∨ a i = 0 then 126#32 else f i := by
  show (if (BitVec.ofBool (f i == 0#32) ||| BitVec.ofBool (f i == 255#32)) ||| BitVec.ofBool (decide (a i = Ideal.ofBits FTy.f32 0#32)) = 1#1 then 126#32 else f i) = _
  rw [ofBits_zero]
  have e1 : (f i == 0#32) = decide (f i = 0#32) := by by_cases h : f i = 0#32 <;> simp [h]
  have e2 : (f i == 255#32) = decide (f i = 255#32) := by by_cases h : f i = 255#32 <;> simp [h]
  rw [e1, e2]
  have key (p q r : Prop) [Decidable p] [Decidable q] [Decidable r] :
      ((BitVec.ofBool (decide p) ||| BitVec.ofBool (decide q)) ||| BitVec.ofBool (decide r) = 1#1) ↔ (p ∨ q ∨ r) := by
    by_cases hp : p <;> by_cases hq : q <;> by_cases hr : r <;> simp [hp, hq, hr]
  exact if_congr (key _ _ _) rfl rfl

/-- What the search means for the reference's scale. -/
theorem scale_cases (a : EReal) (n : ℕ) (h : Found (over448 a) 1 n) :
    (n = 0 ∨ n = 255) ∧ scaleOf a = 1 ∨ (1 ≤ n ∧ n ≤ 253) ∧ a ≠ 0 ∧ scaleOf a = ((pw (n + 1) : ℝ) : EReal) := by
  obtain ⟨h1, h2⟩ := h
  have hn : n ≤ 255 := by omega
  by_cases h0 : n = 0
  · left
    refine ⟨.inl h0, ?_⟩
    subst h0
    have hr : ¬ Reach (over448 a) (0 + 1) := by rcases h2 with h | h; · omega
                                                exact h.2
    unfold scaleOf
    rw [if_neg]
    rw [ofBits_min]
    exact fun hh => hr hh.1
  have hr : Reach (over448 a) n := h1.resolve_left h0
  by_cases h255 : n = 255
  · left
    refine ⟨.inr h255, ?_⟩
    subst h255
    unfold scaleOf
    rw [if_neg]
    rw [ofBits_max]
    exact fun hh => absurd hh.2 (not_lt.mpr hr)
  have hs : ¬ Reach (over448 a) (n + 1) := by rcases h2 with h | h; · omega
                                              exact h.2
  have h254 : n ≠ 254 := fun h => by subst h; exact hs hr
  right
  have hlo : ((pw n : ℝ) : EReal) ≤ over448 a := by
    have := hr; unfold Reach at this; rwa [Nat.min_eq_left (by omega)] at this
  have hhi : over448 a < ((pw (n + 1) : ℝ) : EReal) := by
    have := hs; unfold Reach at this; rw [Nat.min_eq_left (by omega)] at this; exact not_le.mp this
  refine ⟨⟨by omega, by omega⟩, ?_, ?_⟩
  · rintro rfl
    unfold over448 at hlo
    rw [zero_mul] at hlo
    exact absurd hlo (not_le.mpr (EReal.coe_pos.mpr (pw_pos n)))
  · unfold scaleOf
    rw [if_pos, ofBits_top]
    · apply le_antisymm
      · rw [Finset.fold_min_le]
        refine .inr ⟨⟨n - 1, by omega⟩, Finset.mem_univ _, ?_⟩
        rw [power_eq, show n - 1 + 2 = n + 1 by omega, if_pos hhi]
      · rw [Finset.le_fold_min]
        refine ⟨le_top, fun k _ => ?_⟩
        split_ifs with hk
        · rw [power_eq] at hk ⊢
          have hlt : pw n < pw (k.val + 2) := EReal.coe_lt_coe_iff.mp (lt_of_le_of_lt hlo hk)
          have : n < k.val + 2 := by
            by_contra hc
            exact absurd (pw_le (not_lt.mp hc)) (not_le.mpr hlt)
          exact EReal.coe_le_coe_iff.mpr (pw_le (by omega))
        · exact le_top
    · rw [ofBits_min, ofBits_max]
      exact ⟨le_trans (EReal.coe_le_coe_iff.mpr (pw_le (by omega))) hlo, lt_of_lt_of_le hhi (EReal.coe_le_coe_iff.mpr (pw_le (by omega)))⟩

theorem div_one_pw (c d : ℕ) (h : c + d = 254) : Ideal.div 1 ((pw c : ℝ) : EReal) = ((pw d : ℝ) : EReal) := by
  unfold Ideal.div
  rw [if_neg (by rw [← EReal.coe_zero, EReal.coe_eq_coe_iff]; exact (pw_pos c).ne'), one_mul, ← EReal.coe_inv]
  congr 1
  unfold pw
  rw [← zpow_neg]
  congr 1
  omega

theorem div_one_one : Ideal.div 1 1 = 1 := by
  have h := div_one_pw 127 127 rfl
  rwa [pw_127, EReal.coe_one] at h
theorem pw_1_le_one : ((pw 1 : ℝ) : EReal) ≤ 1 := by
  rw [← EReal.coe_one, ← pw_127]
  exact EReal.coe_le_coe_iff.mpr (pw_le (by norm_num))
theorem ofBits_one : Ideal.ofBits FTy.f32 (127#32 <<< 23) = 1 :=
  (ofBits_shift 127 (by norm_num) (by norm_num)).trans (by rw [pw_127, EReal.coe_one])

theorem ofNat_ne {n m : ℕ} (hn : n < 256) (hm : m < 256) (h : n ≠ m) : BitVec.ofNat 32 n ≠ BitVec.ofNat 32 m := fun e => by
  have := congrArg BitVec.toNat e
  rw [BitVec.toNat_ofNat, BitVec.toNat_ofNat, Nat.mod_eq_of_lt (by omega), Nat.mod_eq_of_lt (by omega)] at this
  exact h this
theorem sub_bits : ∀ n : Fin 254, 253#32 - BitVec.ofNat 32 n.val = BitVec.ofNat 32 (253 - n.val) := by decide +kernel

theorem inv_bits (n : ℕ) (h : n ≤ 253) :
    (if ((pw 1 : ℝ) : EReal) ≤ ((pw (253 - n) : ℝ) : EReal) then ((pw (253 - n) : ℝ) : EReal) else 0) =
      Ideal.ofBits FTy.f32 (BitVec.ofNat 32 (253 - n) <<< 23) := by
  generalize hm : 253 - n = m
  have hm' : m ≤ 253 := by omega
  by_cases h0 : m = 0
  · have hlt : pw m < pw 1 := pw_lt (by omega)
    rw [if_neg (not_le.mpr (EReal.coe_lt_coe_iff.mpr hlt)), h0]
    exact ofBits_zero.symm
  · have hle : pw 1 ≤ pw m := pw_le (by omega)
    rw [if_pos (EReal.coe_le_coe_iff.mpr hle), ofBits_shift m (by omega) (by omega)]

/-- THE SCALE: the kernel's is the reference's, -/
theorem vscale_apply {s : Shape} (a x : FVec Ideal s .f32) (i : s.Idx) (hx : x i = over448 (a i)) : vscale a (vfield x) i = scaleOf (a i) := by
  obtain ⟨n, hn, hf⟩ := vfield_found x i
  rw [hx] at hf
  rw [vscale_def, vfix_apply, hn]
  rcases scale_cases (a i) n hf with ⟨h, hs⟩ | ⟨⟨h1, h2⟩, ha, hs⟩
  · rw [if_pos (by rcases h with rfl | rfl <;> simp), hs]
    exact ofBits_one
  · rw [if_neg, hs, ← BitVec.ofNat_add, ofBits_shift _ (by omega) (by omega)]
    rintro (h | h | h)
    · exact ofNat_ne (by omega) (by norm_num) (by omega : n ≠ 0) h
    · exact ofNat_ne (by omega) (by norm_num) (by omega : n ≠ 255) h
    · exact ha h
/-- and so is its reciprocal. -/
theorem vinv_apply {s : Shape} (a x : FVec Ideal s .f32) (i : s.Idx) (hx : x i = over448 (a i)) : vinv a (vfield x) i = invOf (scaleOf (a i)) := by
  obtain ⟨n, hn, hf⟩ := vfield_found x i
  rw [hx] at hf
  rw [vinv_def, vfix_apply, hn]
  unfold invOf
  rw [ofBits_min]
  rcases scale_cases (a i) n hf with ⟨h, hs⟩ | ⟨⟨h1, h2⟩, ha, hs⟩
  · rw [if_pos (by rcases h with rfl | rfl <;> simp), hs, div_one_one, if_pos pw_1_le_one]
    exact ofBits_one
  · have hne : ¬ (BitVec.ofNat 32 n = 0#32 ∨ BitVec.ofNat 32 n = 255#32 ∨ a i = 0) := by
      rintro (h | h | h)
      · exact ofNat_ne (by omega) (by norm_num) (by omega : n ≠ 0) h
      · exact ofNat_ne (by omega) (by norm_num) (by omega : n ≠ 255) h
      · exact ha h
    rw [if_neg hne, hs, sub_bits ⟨n, by omega⟩, div_one_pw (n + 1) (253 - n) (by omega)]
    exact (inv_bits n h2).symm

end Cert.Spec

end
-- ==== Proof.Spec.lean ====
/- What the block computes, over the extended reals, row by row: the normed row, its scale and codes, the projection,
   the gated hidden row with its scale and codes, and the output. Both programs are shown to compute these functions of
   their arguments. -/
module

public import proofs.«01_k».proof.Proof.Scale

@[expose] public section

noncomputable section

open Idealize.ShloMosaic

namespace Cert.Spec

/-- The largest magnitude of a row. -/
def amax {n : ℕ} (v : Fin n → EReal) : EReal :=
  Finset.univ.fold max (Ideal.ofBits FTy.f32 4286578688#32) (fun k => FloatOps.absf (F := Ideal) (φ := .f32) (v k))
/-- The scale of a row. -/
def rowScale {n : ℕ} (v : Fin n → EReal) : EReal := scaleOf (amax v)
/-- A number's code under a row's scale `s`. -/
def codeOf (v s : EReal) : EReal :=
  min (Ideal.ofBits FTy.f32 1138753536#32) (max (Ideal.ofBits FTy.f32 3286237184#32) (v * invOf s))

/-- A row divided by the root of its mean square plus epsilon, times the weights. -/
def normed (x g : Fin 3584 → EReal) (k : Fin 3584) : EReal :=
  x k * Ideal.rsqrt (Ideal.div (∑ j, x j * x j) (Ideal.ofBits FTy.f32 1163919360#32) + Ideal.ofBits FTy.f32 897988541#32) * g k

/-- The product of a row of codes with a row of the weights, scaled back. -/
def scaledDot {n : ℕ} (c w : Fin n → EReal) (s t : EReal) : EReal := (∑ k, c k * w k) * s * t

/-- The gated product of a gate and an upper value. -/
def gated (a b : EReal) : EReal := a * Ideal.logistic a * b

section Rows

variable (x : Fin 8192 → Fin 3584 → EReal) (g : Fin 3584 → EReal) (w : Fin 10624 → Fin 3584 → EReal) (ws : Fin 10624 → EReal)
  (wd : Fin 3584 → Fin 4736 → EReal) (wds : Fin 3584 → EReal)

/-- The normed rows' scales, -/
def xs (r : Fin 8192) : EReal := rowScale (normed (x r) g)
/-- and codes. -/
def xc (r : Fin 8192) (k : Fin 3584) : EReal := codeOf (normed (x r) g k) (xs x g r)
/-- The first projection. -/
def proj (r : Fin 8192) (n : Fin 10624) : EReal := scaledDot (xc x g r) (w n) (xs x g r) (ws n)
/-- The hidden rows, -/
def hid (r : Fin 8192) (j : Fin 4736) : EReal :=
  gated (proj x g w ws r ⟨1152 + j.val, by omega⟩) (proj x g w ws r ⟨5888 + j.val, by omega⟩)
/-- their scales, -/
def hs (r : Fin 8192) : EReal := rowScale (hid x g w ws r)
/-- and codes. -/
def hc (r : Fin 8192) (j : Fin 4736) : EReal := codeOf (hid x g w ws r j) (hs x g w ws r)
/-- The block's output. -/
def out (r : Fin 8192) (n : Fin 3584) : EReal := x r n + scaledDot (hc x g w ws r) (wd n) (hs x g w ws r) (wds n)

end Rows

end Cert.Spec

end
-- ==== Proof.NormVal.lean ====
/- The normalising call over the extended reals: the arrays it leaves are the codes and the scales of the normed rows of its
   arguments (`final2`, `final3`, `final4`). -/
module

public import proofs.«01_k».proof.Proof.Spec
public import proofs.«01_k».proof.Proof.RegionNorm
public import Idealize.ShloMosaic.Lib.Pipeline.Value
public import Idealize.ShloMosaic.Lib.Pointwise

@[expose] public section

set_option maxRecDepth 16384

noncomputable section

namespace Cert.KernelIdeal.NormVal

open Cert.KernelIdeal Cert.KernelIdeal.Gen Cert.KernelIdeal.Run Idealize.ShloMosaic Idealize.ShloMosaic.TcCoe Idealize.SL.Sem
open Idealize.ShloMosaic.Pipeline (Dat)

/-! ## One block -/

section Ladder
variable {F : FTy → Type} [FloatOps F]

/-- The number whose exponent field is the clipped sum of `f` and `b`. -/
def pwv {s : Shape} (f : IVec s 32) (b : BitVec 32) : FVec F s .f32 :=
  bitcastToFloat .f32 (shli (minsi (addi f (broadcast s b)) (broadcast s 254#32)) (broadcast s 23#32))

theorem step128 (v0 : Vec F S256x3584 .bf16) (v1 : Vec F S1x3584 .bf16) :
    k0_pay7 v0 v1 = Spec.lstep (k0_pay6 v0 v1) 128#32 (broadcast S256x1 0#32) := rfl
theorem power64 (v0 : Vec F S256x3584 .bf16) (v1 : Vec F S1x3584 .bf16) : k0_pay8 v0 v1 = pwv (k0_pay7 v0 v1) 64#32 := rfl
theorem step64 (X : FVec F S256x1 .f32) (f : IVec S256x1 32) :
    k0_pay9 X f (pwv f 64#32) = Spec.lstep X 8#32 (Spec.lstep X 16#32 (Spec.lstep X 32#32 (Spec.lstep X 64#32 f))) := rfl
theorem power4 (X : FVec F S256x1 .f32) (f : IVec S256x1 32) (p : FVec F S256x1 .f32) : k0_pay10 X f p = pwv (k0_pay9 X f p) 4#32 := rfl
theorem step4 (a X : FVec F S256x1 .f32) (f : IVec S256x1 32) :
    k0_pay11 a X f (pwv f 4#32) = Spec.vfix a (Spec.lstep X 1#32 (Spec.lstep X 2#32 (Spec.lstep X 4#32 f))) := rfl

/-- The row maxima, and the search's field for them. -/
theorem field_eq (x0 : Vec F S256x3584 .bf16) (x1 : Vec F S1x3584 .bf16) (a X : FVec F S256x1 .f32) (hX : X = k0_pay6 x0 x1) :
    k0_pay11 a X (k0_pay9 X (k0_pay7 x0 x1) (k0_pay8 x0 x1)) (k0_pay10 X (k0_pay7 x0 x1) (k0_pay8 x0 x1)) = Spec.vfix a (Spec.vfield X) := by
  rw [power4, step4, power64, step64, step128, ← hX]
  rfl
theorem scale_of (a X : FVec F S256x1 .f32) (f : IVec S256x1 32) (p : FVec F S256x1 .f32) (g : IVec S256x1 32) (h : k0_pay11 a X f p = Spec.vfix a g) :
    k0_pay12 a X f p = Spec.vscale a g := by
  show bitcastToFloat .f32 (shli (addi (k0_pay11 a X f p) (broadcast S256x1 1#32)) (broadcast S256x1 23#32)) = _
  rw [h]
  rfl
theorem inv_of (a X : FVec F S256x1 .f32) (f : IVec S256x1 32) (p : FVec F S256x1 .f32) (g : IVec S256x1 32) (h : k0_pay11 a X f p = Spec.vfix a g) :
    bitcastToFloat (F := F) .f32 (shli (k0_pay13 a X f p) (broadcast S256x1 23#32)) = Spec.vinv a g := by
  show bitcastToFloat .f32 (shli (subi (broadcast S256x1 253#32) (k0_pay11 a X f p)) (broadcast S256x1 23#32)) = _
  rw [h]
  rfl
end Ladder

theorem xn_apply (x0 : Vec Ideal S256x3584 .bf16) (x1 : Vec Ideal S1x3584 .bf16) (r : Fin 256) (k : Fin 3584) :
    k0_pay4 (F := Ideal) x0 x1 (ix2 r k) = Spec.normed (fun j => x0 (ix2 r j)) (fun j => x1 (ix2 0 j)) k := by
  unfold Spec.normed
  pointwise [k0_pay4]

def maxRed (a : FVec Ideal S256x3584 .f32) : FVec Ideal S256 .f32 :=
  multiReduction .maximumf [1] S256 (absf a) 0xFF800000#32 reduces_S256x3584_S256 (.inl rfl) rfl
theorem maxRed_apply (a : FVec Ideal S256x3584 .f32) (r : Fin 256) : maxRed a (ix1 r) = Spec.amax fun k => a (ix2 r k) := by
  unfold maxRed
  simp only [pointwise]
  rfl
theorem col_of_vec (a : FVec Ideal S256 .f32) (r : Fin 256) : shapeCast S256x1 a shapeCasts_S256_S256x1 (ix2 r 0) = a (ix1 r) := by
  pointwise

/-- A row's largest magnitude. -/
theorem amax_apply (x0 : Vec Ideal S256x3584 .bf16) (x1 : Vec Ideal S1x3584 .bf16) (r : Fin 256) :
    k0_pay5 (F := Ideal) x0 x1 (ix2 r 0) = Spec.amax (Spec.normed (fun j => x0 (ix2 r j)) (fun j => x1 (ix2 0 j))) := by
  refine (col_of_vec (maxRed (k0_pay4 x0 x1)) r).trans ((maxRed_apply _ r).trans ?_)
  congr 1
  funext k
  exact xn_apply x0 x1 r k
theorem over_apply (x0 : Vec Ideal S256x3584 .bf16) (x1 : Vec Ideal S1x3584 .bf16) (i : S256x1.Idx) :
    k0_pay6 (F := Ideal) x0 x1 i = Spec.over448 (k0_pay5 (F := Ideal) x0 x1 i) := rfl

theorem hz : (![0, 0] : Fin 2 → Nat) = fun _ => 0 := funext fun a => by fin_cases a <;> rfl

theorem scale_block (x0 : Vec Ideal S256x3584 .bf16) (x1 : Vec Ideal S1x3584 .bf16) (r : Fin 256) :
    k0_pay20 (F := Ideal) x0 x1 (ix2 r 0) = Spec.rowScale (Spec.normed (fun j => x0 (ix2 r j)) (fun j => x1 (ix2 0 j))) := by
  unfold k0_pay20 k0_pay18 k0_pay19 k0_pay17 k0_pay16 k0_pay15 k0_pay14
  rw [View.ld_unit_zero (S := S256x3584) hz, View.ld_unit_zero (S := S1x3584) hz, scale_of _ _ _ _ _ (field_eq x0 x1 _ _ rfl),
    Spec.vscale_apply _ _ _ (over_apply x0 x1 _), amax_apply]
  rfl

theorem codes_vec (a : FVec Ideal S256x3584 .f32) (f : IVec S256x1 32) (r : Fin 256) (k : Fin 3584) :
    k0_pay1 (F := Ideal) a f 23#32 (ix2 r k) = min (Ideal.ofBits FTy.f32 1138753536#32) (max (Ideal.ofBits FTy.f32 3286237184#32)
      (a (ix2 r k) * bitcastToFloat (F := Ideal) .f32 (shli f (broadcast S256x1 23#32)) (ix2 r 0))) := by
  pointwise [k0_pay1]

/-- The codes of one block. -/
theorem tile2 (x0 : Vec Ideal S256x3584 .bf16) (x1 : Vec Ideal S1x3584 .bf16) (r : Fin 256) (k : Fin 3584) :
    out0_2 (F := Ideal) x0 x1 (ix2 r k) = Spec.codeOf (Spec.normed (fun j => x0 (ix2 r j)) (fun j => x1 (ix2 0 j)) k)
      (Spec.rowScale (Spec.normed (fun j => x0 (ix2 r j)) (fun j => x1 (ix2 0 j)))) := by
  unfold out0_2
  rw [View.canon_unit_zero hz, codes_vec]
  unfold k0_pay18 k0_pay19 k0_pay17 k0_pay16 k0_pay15 k0_pay14
  rw [View.ld_unit_zero (S := S256x3584) hz, View.ld_unit_zero (S := S1x3584) hz, inv_of _ _ _ _ _ (field_eq x0 x1 _ _ rfl),
    Spec.vinv_apply _ _ _ (over_apply x0 x1 _), amax_apply, xn_apply]
  rfl

theorem wide_vec (s : FVec Ideal S256x1 .f32) (r : Fin 256) (l : Fin 128) : k0_pay2 (F := Ideal) s (ix2 r l) = s (ix2 r 0) := by
  pointwise [k0_pay2]
theorem row_vec (s : FVec Ideal S256x1 .f32) (r : Fin 256) : k0_pay3 (F := Ideal) s (ix2 0 r) = s (ix2 r 0) := by
  pointwise [k0_pay3, k0_pay2]

/-- The scales of one block, as a row … -/
theorem tile3 (x0 : Vec Ideal S256x3584 .bf16) (x1 : Vec Ideal S1x3584 .bf16) (r : Fin 256) :
    out0_3 (F := Ideal) x0 x1 (ix2 0 r) = Spec.rowScale (Spec.normed (fun j => x0 (ix2 r j)) (fun j => x1 (ix2 0 j))) := by
  unfold out0_3
  rw [View.canon_unit_zero hz, row_vec, scale_block]
/-- … and repeated over the lanes. -/
theorem tile4 (x0 : Vec Ideal S256x3584 .bf16) (x1 : Vec Ideal S1x3584 .bf16) (r : Fin 256) (l : Fin 128) :
    out0_4 (F := Ideal) x0 x1 (ix2 r l) = Spec.rowScale (Spec.normed (fun j => x0 (ix2 r j)) (fun j => x1 (ix2 0 j))) := by
  unfold out0_4
  rw [View.canon_unit_zero hz, wide_vec, scale_block]

/-! ## The arrays -/

variable (V : (c : Dev nD) → (b : Ref sig .tc) → Buf (Elt Ideal) ((c : Thread nD τ).loc b))

/-- Which block of each array the grid point `t` works on. -/
theorem idx (t : Fin cfg0.N) :
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = t.val)
    ∧ (win0_4.index t 0 = t.val ∧ win0_4.index t 1 = 0) :=
  (by decide +kernel : ∀ t : Fin grid0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = t.val)
    ∧ (win0_4.index t 0 = t.val ∧ win0_4.index t 1 = 0)) t

/-- The array row that row `r` of the block at point `t` is. -/
def row (t : Fin cfg0.N) (r : Fin 256) : Fin 8192 :=
  ⟨t.val * 256 + r.val, by have := t.isLt; have hN : cfg0.N = 32 := N_0; have := r.isLt; omega⟩

/-- The call's arguments as functions of their coordinates. -/
abbrev X (c : Dev nD) (r : Fin 8192) (k : Fin 3584) : EReal := V c main_v0 (ix2 r k)
abbrev G (c : Dev nD) (k : Fin 3584) : EReal := V c main_v1 (ix2 0 k)

theorem blk0 (c : Dev nD) (t : Fin cfg0.N) (r : Fin 256) (k : Fin 3584) :
    (iblk0 V c 0 t : Vec Ideal S256x3584 .bf16) (ix2 r k) = V c main_v0 (ix2 (row t r) k) := by
  have h := (idx t).1
  show V c main_v0 (((cfg0.win 0).blk t).view.emb (ix2 r k)) = _
  congr 1; funext a; apply Fin.ext
  match a with
  | ⟨0, _⟩ => show win0_0.index t 0 * 256 + 1 * r.val = t.val * 256 + r.val; omega
  | ⟨1, _⟩ => show win0_0.index t 1 * 3584 + 1 * k.val = k.val; omega

theorem blk1 (c : Dev nD) (t : Fin cfg0.N) (k : Fin 3584) :
    (iblk0 V c 1 t : Vec Ideal S1x3584 .bf16) (ix2 0 k) = V c main_v1 (ix2 0 k) := by
  have h := (idx t).2.1
  show V c main_v1 (((cfg0.win 1).blk t).view.emb (ix2 0 k)) = _
  congr 1; funext a; apply Fin.ext
  match a with
  | ⟨0, _⟩ => show win0_1.index t 0 * 1 + 1 * 0 = 0; omega
  | ⟨1, _⟩ => show win0_1.index t 1 * 3584 + 1 * k.val = k.val; omega

/-- The codes. -/
def res2 (c : Dev nD) : Vec Ideal S8192x3584 .fp8e4m3 := fun j => Spec.xc (X V c) (G V c) (j 0) (j 1)

theorem flushed2 (c : Dev nD) (t : Fin cfg0.N) :
    (dat0 V c).flushed 2 t = ((cfg0.win 2).blk t).view.read (Elt Ideal) (res2 V c) := by
  have h := (idx t).2.2.1
  funext j
  obtain ⟨r, k, rfl⟩ : ∃ (r : Fin 256) (k : Fin 3584), j = ix2 r k := ⟨j 0, j 1, eq_ix2 j⟩
  have e : ((cfg0.win 2).blk t).view.emb (ix2 r k) = ix2 (row t r) k := by
    funext a; apply Fin.ext
    match a with
    | ⟨0, _⟩ => show win0_2.index t 0 * 256 + 1 * r.val = t.val * 256 + r.val; omega
    | ⟨1, _⟩ => show win0_2.index t 1 * 3584 + 1 * k.val = k.val; omega
  have er : ((cfg0.win 2).blk t).view.read (Elt Ideal) (res2 V c) (ix2 r k) = res2 V c (ix2 (row t r) k) :=
    congrArg (res2 V c) e
  rw [er]
  show (dat0 V c).after 2 t (ix2 r k) = _
  rw [after0_2, tile2]
  simp only [blk0, blk1]
  rfl

theorem covered2 (i : S8192x3584.Idx) : ∃ t : Fin cfg0.N, (cfg0.win 2).flush t = true ∧ i ∈ ((cfg0.win 2).blk t).view.set := by
  have h0 : (i 0 : Nat) < 8192 := (i 0).isLt
  have h1 : (i 1 : Nat) < 3584 := (i 1).isLt
  have hN : cfg0.N = 32 := N_0
  refine ⟨⟨(i 0 : Nat) / 256, by omega⟩, flush0_2 _, ?_⟩
  generalize ht : (⟨(i 0 : Nat) / 256, _⟩ : Fin cfg0.N) = t
  have hv : t.val = (i 0 : Nat) / 256 := by rw [← ht]
  have h := (idx t).2.2.1
  show i ∈ ((View.whole main_v2_0).slice (win0_2.rect t)).set
  rw [View.set_slice_whole, Rect.mem_set_unit]
  intro a
  match a with
  | ⟨0, _⟩ => show win0_2.index t 0 * 256 ≤ (i 0 : Nat) ∧ (i 0 : Nat) < win0_2.index t 0 * 256 + 256; omega
  | ⟨1, _⟩ => show win0_2.index t 1 * 3584 ≤ (i 1 : Nat) ∧ (i 1 : Nat) < win0_2.index t 1 * 3584 + 3584; omega

/-- The array after the run. -/
theorem final2 (c : Dev nD) : (dat0 V c).arrAt 2 cfg0.N = res2 V c :=
  (dat0 V c).arrAt_eq_of_cover 2 (res2 V c) (fun t _ => flushed2 V c t) covered2

/-- The scales, a row. -/
def res3 (c : Dev nD) : Vec Ideal S1x8192 .f32 := fun j => Spec.xs (X V c) (G V c) (j 1)

theorem flushed3 (c : Dev nD) (t : Fin cfg0.N) :
    (dat0 V c).flushed 3 t = ((cfg0.win 3).blk t).view.read (Elt Ideal) (res3 V c) := by
  have h := (idx t).2.2.2.1
  funext j
  obtain ⟨r, rfl⟩ : ∃ (r : Fin 256), j = ix2 0 r := ⟨j 1, (eq_ix2 j).trans (by congr 1; exact Subsingleton.elim (α := Fin 1) _ _)⟩
  have e : ((cfg0.win 3).blk t).view.emb (ix2 0 r) = ix2 0 (row t r) := by
    funext a; apply Fin.ext
    match a with
    | ⟨0, _⟩ => show win0_3.index t 0 * 1 + 1 * 0 = 0; omega
    | ⟨1, _⟩ => show win0_3.index t 1 * 256 + 1 * r.val = t.val * 256 + r.val; omega
  have er : ((cfg0.win 3).blk t).view.read (Elt Ideal) (res3 V c) (ix2 0 r) = res3 V c (ix2 0 (row t r)) :=
    congrArg (res3 V c) e
  rw [er]
  show (dat0 V c).after 3 t (ix2 0 r) = _
  rw [after0_3, tile3]
  simp only [blk0, blk1]
  rfl

theorem covered3 (i : S1x8192.Idx) : ∃ t : Fin cfg0.N, (cfg0.win 3).flush t = true ∧ i ∈ ((cfg0.win 3).blk t).view.set := by
  have h0 : (i 0 : Nat) < 1 := (i 0).isLt
  have h1 : (i 1 : Nat) < 8192 := (i 1).isLt
  have hN : cfg0.N = 32 := N_0
  refine ⟨⟨(i 1 : Nat) / 256, by omega⟩, flush0_3 _, ?_⟩
  generalize ht : (⟨(i 1 : Nat) / 256, _⟩ : Fin cfg0.N) = t
  have hv : t.val = (i 1 : Nat) / 256 := by rw [← ht]
  have h := (idx t).2.2.2.1
  show i ∈ ((View.whole main_v2_1).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1; omega
  | ⟨1, _⟩ => show win0_3.index t 1 * 256 ≤ (i 1 : Nat) ∧ (i 1 : Nat) < win0_3.index t 1 * 256 + 256; omega

/-- The array after the run. -/
theorem final3 (c : Dev nD) : (dat0 V c).arrAt 3 cfg0.N = res3 V c :=
  (dat0 V c).arrAt_eq_of_cover 3 (res3 V c) (fun t _ => flushed3 V c t) covered3

/-- The scales, over the lanes. -/
def res4 (c : Dev nD) : Vec Ideal S8192x128 .f32 := fun j => Spec.xs (X V c) (G V c) (j 0)

theorem flushed4 (c : Dev nD) (t : Fin cfg0.N) :
    (dat0 V c).flushed 4 t = ((cfg0.win 4).blk t).view.read (Elt Ideal) (res4 V c) := by
  have h := (idx t).2.2.2.2
  funext j
  obtain ⟨r, l, rfl⟩ : ∃ (r : Fin 256) (l : Fin 128), j = ix2 r l := ⟨j 0, j 1, eq_ix2 j⟩
  have e : ((cfg0.win 4).blk t).view.emb (ix2 r l) = ix2 (row t r) l := by
    funext a; apply Fin.ext
    match a with
    | ⟨0, _⟩ => show win0_4.index t 0 * 256 + 1 * r.val = t.val * 256 + r.val; omega
    | ⟨1, _⟩ => show win0_4.index t 1 * 128 + 1 * l.val = l.val; omega
  have er : ((cfg0.win 4).blk t).view.read (Elt Ideal) (res4 V c) (ix2 r l) = res4 V c (ix2 (row t r) l) :=
    congrArg (res4 V c) e
  rw [er]
  show (dat0 V c).after 4 t (ix2 r l) = _
  rw [after0_4, tile4]
  simp only [blk0, blk1]
  rfl

theorem covered4 (i : S8192x128.Idx) : ∃ t : Fin cfg0.N, (cfg0.win 4).flush t = true ∧ i ∈ ((cfg0.win 4).blk t).view.set := by
  have h0 : (i 0 : Nat) < 8192 := (i 0).isLt
  have h1 : (i 1 : Nat) < 128 := (i 1).isLt
  have hN : cfg0.N = 32 := N_0
  refine ⟨⟨(i 0 : Nat) / 256, by omega⟩, flush0_4 _, ?_⟩
  generalize ht : (⟨(i 0 : Nat) / 256, _⟩ : Fin cfg0.N) = t
  have hv : t.val = (i 0 : Nat) / 256 := by rw [← ht]
  have h := (idx t).2.2.2.2
  show i ∈ ((View.whole main_v2_2).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256; omega
  | ⟨1, _⟩ => show win0_4.index t 1 * 128 ≤ (i 1 : Nat) ∧ (i 1 : Nat) < win0_4.index t 1 * 128 + 128; omega

/-- The array after the run. -/
theorem final4 (c : Dev nD) : (dat0 V c).arrAt 4 cfg0.N = res4 V c :=
  (dat0 V c).arrAt_eq_of_cover 4 (res4 V c) (fun t _ => flushed4 V c t) covered4

end Cert.KernelIdeal.NormVal

end
-- ==== Proof.QkvVal.lean ====
/- The projections over the extended reals: the arrays the call leaves are the scaled products of its codes with the
   weights' rows (`final4`, `final5`, `final6`). -/
module

public import proofs.«01_k».proof.Proof.Spec
public import proofs.«01_k».proof.Proof.RegionQkv
public import Idealize.ShloMosaic.Lib.Pipeline.Value
public import Idealize.ShloMosaic.Lib.Pointwise

@[expose] public section

set_option maxRecDepth 16384

noncomputable section

namespace Cert.KernelIdeal.QkvVal

open Cert.KernelIdeal Cert.KernelIdeal.Gen Cert.KernelIdeal.Run Idealize.ShloMosaic Idealize.ShloMosaic.TcCoe Idealize.SL.Sem
open Idealize.ShloMosaic.Pipeline (Dat)

/-! ## One block -/

/-- One head of one block: the codes times 128 rows of the weights, scaled back. -/
def head (xs : Vec Ideal S1024x128 .f32) (xc : Vec Ideal S1024x3584 .fp8e4m3) (w : Vec Ideal S128x3584 .fp8e4m3) (s : Vec Ideal S1x1x128 .f32) :
    FVec Ideal S1024x128 .bf16 := k1_pay13 (F := Ideal) xs xc w s

theorem head_apply (xs : Vec Ideal S1024x128 .f32) (xc : Vec Ideal S1024x3584 .fp8e4m3) (w : Vec Ideal S128x3584 .fp8e4m3) (s : Vec Ideal S1x1x128 .f32)
    (r : Fin 1024) (d : Fin 128) :
    head xs xc w s (ix2 r d) = Spec.scaledDot (fun k => xc (ix2 r k)) (fun k => w (ix2 d k)) (xs (ix2 r d)) (s (ix3 0 0 d)) := by
  unfold head Spec.scaledDot
  pointwise [k1_pay13]

theorem lead_apply (z : FVec Ideal S1024x128 .bf16) (r : Fin 1024) (d : Fin 128) :
    shapeCast S1x1024x128 z shapeCasts_S1024x128_S1x1024x128 (ix3 0 r d) = z (ix2 r d) := by
  pointwise

theorem hz : (![0, 0] : Fin 2 → Nat) = fun _ => 0 := funext fun a => by fin_cases a <;> rfl
theorem pay2_eq (v : Vec Ideal S1024x128 .f32) : k1_pay2 (F := Ideal) v = v := by
  funext j
  obtain ⟨r, d, rfl⟩ : ∃ (r : Fin 1024) (d : Fin 128), j = ix2 r d := ⟨j 0, j 1, eq_ix2 j⟩
  pointwise [k1_pay2]
theorem pay3_eq (v : Vec Ideal S1024x3584 .fp8e4m3) : k1_pay3 (F := Ideal) v = v := by
  funext j
  obtain ⟨r, d, rfl⟩ : ∃ (r : Fin 1024) (d : Fin 3584), j = ix2 r d := ⟨j 0, j 1, eq_ix2 j⟩
  pointwise [k1_pay3]
theorem ldx (x2 : Vec Ideal S1024x128 .f32) : k1_pay2 (F := Ideal) (View.ld x2 r1_0) = x2 := by
  rw [View.ld_unit_zero (S := S1024x128) hz, pay2_eq]
theorem ldc (x0 : Vec Ideal S1024x3584 .fp8e4m3) : k1_pay3 (F := Ideal) (View.ld x0 r1_1) = x0 := by
  rw [View.ld_unit_zero (S := S1024x3584) hz, pay3_eq]

theorem ldw (x1 : Vec Ideal S1152x3584 .fp8e4m3) (o : ℕ) (h : ∀ a, (![o, 0] : Fin 2 → ℕ) a + S128x3584.size a ≤ S1152x3584.size a)
    (d : Fin 128) (k : Fin 3584) (ho : o + d.val < 1152) :
    View.ld x1 (Rect.unit (s := S1152x3584) ![o, 0] S128x3584.size h) (ix2 d k) = x1 (ix2 ⟨o + d.val, ho⟩ k) := by
  show x1 _ = _
  congr 1; funext a; apply Fin.ext
  match a with
  | ⟨0, _⟩ => show o + 1 * d.val = o + d.val; omega
  | ⟨1, _⟩ => show 0 + 1 * k.val = k.val; omega
theorem lds (x3 : Vec Ideal S9x1x128 .f32) (o : ℕ) (h : ∀ a, (![o, 0, 0] : Fin 3 → ℕ) a + S1x1x128.size a ≤ S9x1x128.size a)
    (d : Fin 128) (ho : o < 9) :
    View.ld x3 (Rect.unit (s := S9x1x128) ![o, 0, 0] S1x1x128.size h) (ix3 0 0 d) = x3 (ix3 ⟨o, ho⟩ 0 d) := by
  show x3 _ = _
  congr 1; funext a; apply Fin.ext
  match a with
  | ⟨0, _⟩ => show o + 1 * 0 = o; omega
  | ⟨1, _⟩ => rfl
  | ⟨2, _⟩ => show 0 + 1 * d.val = d.val; omega

/-- Head `o` of one block, at a row and a lane. -/
def headAt (x0 : Vec Ideal S1024x3584 .fp8e4m3) (x1 : Vec Ideal S1152x3584 .fp8e4m3) (x2 : Vec Ideal S1024x128 .f32) (x3 : Vec Ideal S9x1x128 .f32)
    (o : ℕ) (ho : o < 9) (r : Fin 1024) (d : Fin 128) : EReal :=
  Spec.scaledDot (fun k : Fin 3584 => x0 (ix2 r k)) (fun k => x1 (ix2 ⟨128 * o + d.val, by omega⟩ k)) (x2 (ix2 r d)) (x3 (ix3 ⟨o, ho⟩ 0 d))

theorem head_ld (x0 : Vec Ideal S1024x3584 .fp8e4m3) (x1 : Vec Ideal S1152x3584 .fp8e4m3) (x2 : Vec Ideal S1024x128 .f32) (x3 : Vec Ideal S9x1x128 .f32)
    (o : ℕ) (ho : o < 9) (hw : ∀ a, (![128 * o, 0] : Fin 2 → ℕ) a + S128x3584.size a ≤ S1152x3584.size a)
    (hs : ∀ a, (![o, 0, 0] : Fin 3 → ℕ) a + S1x1x128.size a ≤ S9x1x128.size a) (r : Fin 1024) (d : Fin 128) :
    head (k1_pay2 (View.ld x2 r1_0)) (k1_pay3 (View.ld x0 r1_1)) (View.ld x1 (Rect.unit (s := S1152x3584) ![128 * o, 0] S128x3584.size hw))
      (View.ld x3 (Rect.unit (s := S9x1x128) ![o, 0, 0] S1x1x128.size hs)) (ix2 r d) = headAt x0 x1 x2 x3 o ho r d := by
  rw [head_apply, ldx, ldc, lds _ _ _ _ ho]
  unfold headAt
  congr 1
  funext k
  exact ldw x1 (128 * o) hw d k (by omega)

/-- The heads of one block. -/
def heads (x0 : Vec Ideal S1024x3584 .fp8e4m3) (x1 : Vec Ideal S1152x3584 .fp8e4m3) (x2 : Vec Ideal S1024x128 .f32) (x3 : Vec Ideal S9x1x128 .f32) :
    Vec Ideal S7x1024x128 .bf16 := fun i =>
  headAt x0 x1 x2 x3 (i 0).val (by have h0 : (i 0 : Nat) < 7 := (i 0).isLt; omega) (i 1) (i 2)

theorem headAt_congr (x0 : Vec Ideal S1024x3584 .fp8e4m3) (x1 : Vec Ideal S1152x3584 .fp8e4m3) (x2 : Vec Ideal S1024x128 .f32) (x3 : Vec Ideal S9x1x128 .f32)
    (o o' : ℕ) (ho : o < 9) (ho' : o' < 9) (r r' : Fin 1024) (d d' : Fin 128) (e : o' = o) (er : r' = r) (ed : d' = d) :
    headAt x0 x1 x2 x3 o' ho' r' d' = headAt x0 x1 x2 x3 o ho r d := by
  subst e er ed; rfl

/-- What the store of head `o` writes is that head. -/
theorem heads_emb (x0 : Vec Ideal S1024x3584 .fp8e4m3) (x1 : Vec Ideal S1152x3584 .fp8e4m3) (x2 : Vec Ideal S1024x128 .f32) (x3 : Vec Ideal S9x1x128 .f32)
    (o : ℕ) (ho : o < 9) (h : ∀ a, (![o, 0, 0] : Fin 3 → ℕ) a + S1x1024x128.size a ≤ S7x1024x128.size a) (r : Fin 1024) (d : Fin 128) :
    heads x0 x1 x2 x3 ((Rect.unit (s := S7x1024x128) ![o, 0, 0] S1x1024x128.size h).emb (ix3 0 r d)) = headAt x0 x1 x2 x3 o ho r d := by
  unfold heads
  refine headAt_congr x0 x1 x2 x3 _ _ _ _ _ _ _ _ ?_ (Fin.ext ?_) (Fin.ext ?_)
  · show o + 1 * 0 = o; omega
  · show 0 + 1 * r.val = r.val; omega
  · show 0 + 1 * d.val = d.val; omega

theorem idx3 (x : S1x1024x128.Idx) : ∃ (r : Fin 1024) (d : Fin 128), x = ix3 0 r d :=
  ⟨x 1, x 2, (eq_ix3 x).trans (by congr 1; exact Subsingleton.elim (α := Fin 1) _ _)⟩

/-- A store of head `o` agrees with `heads`, whatever way its payload is written. -/
theorem piece (x0 : Vec Ideal S1024x3584 .fp8e4m3) (x1 : Vec Ideal S1152x3584 .fp8e4m3) (x2 : Vec Ideal S1024x128 .f32) (x3 : Vec Ideal S9x1x128 .f32)
    (o : ℕ) (ho : o < 9) (hw : ∀ a, (![128 * o, 0] : Fin 2 → ℕ) a + S128x3584.size a ≤ S1152x3584.size a)
    (hs : ∀ a, (![o, 0, 0] : Fin 3 → ℕ) a + S1x1x128.size a ≤ S9x1x128.size a)
    (h : ∀ a, (![o, 0, 0] : Fin 3 → ℕ) a + S1x1024x128.size a ≤ S7x1024x128.size a)
    (p : FVec Ideal S1x1024x128 .bf16)
    (hp : p = shapeCast S1x1024x128 (head (k1_pay2 (View.ld x2 r1_0)) (k1_pay3 (View.ld x0 r1_1))
      (View.ld x1 (Rect.unit (s := S1152x3584) ![128 * o, 0] S128x3584.size hw)) (View.ld x3 (Rect.unit (s := S9x1x128) ![o, 0, 0] S1x1x128.size hs)))
      shapeCasts_S1024x128_S1x1024x128) (x : S1x1024x128.Idx) :
    p x = heads x0 x1 x2 x3 ((Rect.unit (s := S7x1024x128) ![o, 0, 0] S1x1024x128.size h).emb x) := by
  obtain ⟨r, d, rfl⟩ := idx3 x
  rw [hp, lead_apply, head_ld _ _ _ _ o ho, heads_emb _ _ _ _ o ho]

theorem tile4 (x0 : Vec Ideal S1024x3584 .fp8e4m3) (x1 : Vec Ideal S1152x3584 .fp8e4m3) (x2 : Vec Ideal S1024x128 .f32) (x3 : Vec Ideal S9x1x128 .f32)
    (y : S7x1024x128.Idx) : out1_4 (F := Ideal) x0 x1 x2 x3 y = heads x0 x1 x2 x3 y := by
  refine View.canon_apply_of_pieces (heads x0 x1 x2 x3) _ ?_ y (cover1_4 _ _ _ _ _ _ _ y)
  intro p hp x
  simp only [List.mem_cons, List.not_mem_nil, or_false] at hp
  rcases hp with rfl | rfl | rfl | rfl | rfl | rfl | rfl
  · exact piece x0 x1 x2 x3 6 (by omega) inb_S1152x3584_S128x3584_768_0 inb_S9x1x128_S1x1x128_6_0_0 inb_S7x1024x128_S1x1024x128_6_0_0 _ rfl x
  · exact piece x0 x1 x2 x3 5 (by omega) inb_S1152x3584_S128x3584_640_0 inb_S9x1x128_S1x1x128_5_0_0 inb_S7x1024x128_S1x1024x128_5_0_0 _ rfl x
  · exact piece x0 x1 x2 x3 4 (by omega) inb_S1152x3584_S128x3584_512_0 inb_S9x1x128_S1x1x128_4_0_0 inb_S7x1024x128_S1x1024x128_4_0_0 _ rfl x
  · exact piece x0 x1 x2 x3 3 (by omega) inb_S1152x3584_S128x3584_384_0 inb_S9x1x128_S1x1x128_3_0_0 inb_S7x1024x128_S1x1024x128_3_0_0 _ rfl x
  · exact piece x0 x1 x2 x3 2 (by omega) inb_S1152x3584_S128x3584_256_0 inb_S9x1x128_S1x1x128_2_0_0 inb_S7x1024x128_S1x1024x128_2_0_0 _ rfl x
  · exact piece x0 x1 x2 x3 1 (by omega) inb_S1152x3584_S128x3584_128_0 inb_S9x1x128_S1x1x128_1_0_0 inb_S7x1024x128_S1x1024x128_1_0_0 _ rfl x
  · exact piece x0 x1 x2 x3 0 (by omega) inb_S1152x3584_S128x3584_0_0 inb_S9x1x128_S1x1x128_0_0_0 inb_S7x1024x128_S1x1024x128_0_0_0 _ rfl x

theorem tile5 (x0 : Vec Ideal S1024x3584 .fp8e4m3) (x1 : Vec Ideal S1152x3584 .fp8e4m3) (x2 : Vec Ideal S1024x128 .f32) (x3 : Vec Ideal S9x1x128 .f32)
    (r : Fin 1024) (d : Fin 128) : out1_5 (F := Ideal) x0 x1 x2 x3 (ix2 r d) = headAt x0 x1 x2 x3 7 (by omega) r d := by
  unfold out1_5
  rw [View.canon_unit_zero hz]
  exact head_ld x0 x1 x2 x3 7 (by omega) inb_S1152x3584_S128x3584_896_0 inb_S9x1x128_S1x1x128_7_0_0 r d

theorem tile6 (x0 : Vec Ideal S1024x3584 .fp8e4m3) (x1 : Vec Ideal S1152x3584 .fp8e4m3) (x2 : Vec Ideal S1024x128 .f32) (x3 : Vec Ideal S9x1x128 .f32)
    (r : Fin 1024) (d : Fin 128) : out1_6 (F := Ideal) x0 x1 x2 x3 (ix2 r d) = headAt x0 x1 x2 x3 8 (by omega) r d := by
  unfold out1_6
  rw [View.canon_unit_zero hz]
  exact head_ld x0 x1 x2 x3 8 (by omega) inb_S1152x3584_S128x3584_1024_0 inb_S9x1x128_S1x1x128_8_0_0 r d

/-! ## The arrays -/

variable (V : (c : Dev nD) → (b : Ref sig .tc) → Buf (Elt Ideal) ((c : Thread nD τ).loc b))

/-- Which block of each array the grid point `t` works on. -/
theorem idx (t : Fin cfg1.N) :
    (win1_0.index t 0 = t.val ∧ win1_0.index t 1 = 0)
    ∧ (win1_1.index t 0 = 0 ∧ win1_1.index t 1 = 0)
    ∧ (win1_2.index t 0 = t.val ∧ win1_2.index t 1 = 0)
    ∧ (win1_3.index t 0 = 0 ∧ win1_3.index t 1 = 0 ∧ win1_3.index t 2 = 0)
    ∧ (win1_4.index t 0 = 0 ∧ win1_4.index t 1 = t.val ∧ win1_4.index t 2 = 0)
    ∧ (win1_5.index t 0 = t.val ∧ win1_5.index t 1 = 0)
    ∧ (win1_6.index t 0 = t.val ∧ win1_6.index t 1 = 0) :=
  (by decide +kernel : ∀ t : Fin grid1.N,
    (win1_0.index t 0 = t.val ∧ win1_0.index t 1 = 0)
    ∧ (win1_1.index t 0 = 0 ∧ win1_1.index t 1 = 0)
    ∧ (win1_2.index t 0 = t.val ∧ win1_2.index t 1 = 0)
    ∧ (win1_3.index t 0 = 0 ∧ win1_3.index t 1 = 0 ∧ win1_3.index t 2 = 0)
    ∧ (win1_4.index t 0 = 0 ∧ win1_4.index t 1 = t.val ∧ win1_4.index t 2 = 0)
    ∧ (win1_5.index t 0 = t.val ∧ win1_5.index t 1 = 0)
    ∧ (win1_6.index t 0 = t.val ∧ win1_6.index t 1 = 0)) t

/-- The array row that row `r` of the block at point `t` is. -/
def row (t : Fin cfg1.N) (r : Fin 1024) : Fin 8192 :=
  ⟨t.val * 1024 + r.val, by have := t.isLt; have hN : cfg1.N = 8 := N_1; have := r.isLt; omega⟩

theorem blk0 (c : Dev nD) (t : Fin cfg1.N) (r : Fin 1024) (k : Fin 3584) :
    (iblk1 V c 0 t : Vec Ideal S1024x3584 .fp8e4m3) (ix2 r k) = V c main_v2_0 (ix2 (row t r) k) := by
  have h := (idx t).1
  show V c main_v2_0 (((cfg1.win 0).blk t).view.emb (ix2 r k)) = _
  congr 1; funext a; apply Fin.ext
  match a with
  | ⟨0, _⟩ => show win1_0.index t 0 * 1024 + 1 * r.val = t.val * 1024 + r.val; omega
  | ⟨1, _⟩ => show win1_0.index t 1 * 3584 + 1 * k.val = k.val; omega

theorem blk2 (c : Dev nD) (t : Fin cfg1.N) (r : Fin 1024) (l : Fin 128) :
    (iblk1 V c 2 t : Vec Ideal S1024x128 .f32) (ix2 r l) = V c main_v2_2 (ix2 (row t r) l) := by
  have h := (idx t).2.2.1
  show V c main_v2_2 (((cfg1.win 2).blk t).view.emb (ix2 r l)) = _
  congr 1; funext a; apply Fin.ext
  match a with
  | ⟨0, _⟩ => show win1_2.index t 0 * 1024 + 1 * r.val = t.val * 1024 + r.val; omega
  | ⟨1, _⟩ => show win1_2.index t 1 * 128 + 1 * l.val = l.val; omega

theorem blk1 (c : Dev nD) (t : Fin cfg1.N) (n : Fin 1152) (k : Fin 3584) :
    X1_1 V c t (ix2 n k) = V c main_arg2 (ix2 ⟨n.val, by omega⟩ k) := by
  have h := (idx t).2.1
  unfold X1_1 Pipeline.Window.fill
  rw [dif_pos (moved1_1 t _)]
  show V c main_arg2 (((cfg1.win 1).blk t).view.emb _) = _
  congr 1; funext a; apply Fin.ext
  match a with
  | ⟨0, _⟩ => show win1_1.index t 0 * 1152 + 1 * n.val = n.val; omega
  | ⟨1, _⟩ => show win1_1.index t 1 * 3584 + 1 * k.val = k.val; omega

theorem blk3 (c : Dev nD) (t : Fin cfg1.N) (h9 : Fin 9) (d : Fin 128) :
    X1_3 V c t (ix3 h9 0 d) = V c main_v3 (ix3 ⟨h9.val, by omega⟩ 0 d) := by
  have h := (idx t).2.2.2.1
  unfold X1_3 Pipeline.Window.fill
  rw [dif_pos (moved1_3 t _)]
  show V c main_v3 (((cfg1.win 3).blk t).view.emb _) = _
  congr 1; funext a; apply Fin.ext
  match a with
  | ⟨0, _⟩ => show win1_3.index t 0 * 9 + 1 * h9.val = h9.val; omega
  | ⟨1, _⟩ => show win1_3.index t 1 * 1 + 1 * 0 = 0; omega
  | ⟨2, _⟩ => show win1_3.index t 2 * 128 + 1 * d.val = d.val; omega

/-- Head `o` of the projections, at an array row and a lane. -/
def projAt (c : Dev nD) (o : ℕ) (ho : o < 9) (r : Fin 8192) (d : Fin 128) : EReal :=
  Spec.scaledDot (fun k : Fin 3584 => V c main_v2_0 (ix2 r k)) (fun k => V c main_arg2 (ix2 ⟨128 * o + d.val, by omega⟩ k))
    (V c main_v2_2 (ix2 r d)) (V c main_v3 (ix3 ⟨o, by omega⟩ 0 d))

theorem headAt_eq (c : Dev nD) (t : Fin cfg1.N) (o : ℕ) (ho : o < 9) (r : Fin 1024) (d : Fin 128) :
    headAt (iblk1 V c 0 t) (X1_1 V c t) (iblk1 V c 2 t) (X1_3 V c t) o ho r d = projAt V c o ho (row t r) d := by
  unfold headAt projAt
  rw [blk2, blk3]
  simp only [blk0, blk1]

/-- The query heads. -/
def res4 (c : Dev nD) : Vec Ideal S7x8192x128 .bf16 := fun j => projAt V c (j 0).val (by have h0 : (j 0 : Nat) < 7 := (j 0).isLt; omega) (j 1) (j 2)

theorem flushed4 (c : Dev nD) (t : Fin cfg1.N) :
    (dat1 V c).flushed 4 t = ((cfg1.win 4).blk t).view.read (Elt Ideal) (res4 V c) := by
  have h := (idx t).2.2.2.2.1
  funext j
  obtain ⟨h7, r, d, rfl⟩ : ∃ (h7 : Fin 7) (r : Fin 1024) (d : Fin 128), j = ix3 h7 r d := ⟨j 0, j 1, j 2, eq_ix3 j⟩
  have e : ((cfg1.win 4).blk t).view.emb (ix3 h7 r d) = ix3 h7 (row t r) d := by
    funext a; apply Fin.ext
    match a with
    | ⟨0, _⟩ => show win1_4.index t 0 * 7 + 1 * h7.val = h7.val; omega
    | ⟨1, _⟩ => show win1_4.index t 1 * 1024 + 1 * r.val = t.val * 1024 + r.val; omega
    | ⟨2, _⟩ => show win1_4.index t 2 * 128 + 1 * d.val = d.val; omega
  have er : ((cfg1.win 4).blk t).view.read (Elt Ideal) (res4 V c) (ix3 h7 r d) = res4 V c (ix3 h7 (row t r) d) :=
    congrArg (res4 V c) e
  rw [er]
  show (dat1 V c).after 4 t (ix3 h7 r d) = _
  rw [after1_4, tile4]
  exact headAt_eq V c t h7.val (by omega) r d

theorem covered4 (i : S7x8192x128.Idx) : ∃ t : Fin cfg1.N, (cfg1.win 4).flush t = true ∧ i ∈ ((cfg1.win 4).blk t).view.set := by
  have h0 : (i 0 : Nat) < 7 := (i 0).isLt
  have h1 : (i 1 : Nat) < 8192 := (i 1).isLt
  have h2 : (i 2 : Nat) < 128 := (i 2).isLt
  have hN : cfg1.N = 8 := N_1
  refine ⟨⟨(i 1 : Nat) / 1024, by omega⟩, flush1_4 _, ?_⟩
  generalize ht : (⟨(i 1 : Nat) / 1024, _⟩ : Fin cfg1.N) = t
  have hv : t.val = (i 1 : Nat) / 1024 := by rw [← ht]
  have h := (idx t).2.2.2.2.1
  show i ∈ ((View.whole main_v4_0).slice (win1_4.rect t)).set
  rw [View.set_slice_whole, Rect.mem_set_unit]
  intro a
  match a with
  | ⟨0, _⟩ => show win1_4.index t 0 * 7 ≤ (i 0 : Nat) ∧ (i 0 : Nat) < win1_4.index t 0 * 7 + 7; omega
  | ⟨1, _⟩ => show win1_4.index t 1 * 1024 ≤ (i 1 : Nat) ∧ (i 1 : Nat) < win1_4.index t 1 * 1024 + 1024; omega
  | ⟨2, _⟩ => show win1_4.index t 2 * 128 ≤ (i 2 : Nat) ∧ (i 2 : Nat) < win1_4.index t 2 * 128 + 128; omega

/-- The array after the run. -/
theorem final4 (c : Dev nD) : (dat1 V c).arrAt 4 cfg1.N = res4 V c :=
  (dat1 V c).arrAt_eq_of_cover 4 (res4 V c) (fun t _ => flushed4 V c t) covered4

/-- The keys. -/
def res5 (c : Dev nD) : Vec Ideal S8192x128 .bf16 := fun j => projAt V c 7 (by omega) (j 0) (j 1)

theorem flushed5 (c : Dev nD) (t : Fin cfg1.N) :
    (dat1 V c).flushed 5 t = ((cfg1.win 5).blk t).view.read (Elt Ideal) (res5 V c) := by
  have h := (idx t).2.2.2.2.2.1
  funext j
  obtain ⟨r, d, rfl⟩ : ∃ (r : Fin 1024) (d : Fin 128), j = ix2 r d := ⟨j 0, j 1, eq_ix2 j⟩
  have e : ((cfg1.win 5).blk t).view.emb (ix2 r d) = ix2 (row t r) d := by
    funext a; apply Fin.ext
    match a with
    | ⟨0, _⟩ => show win1_5.index t 0 * 1024 + 1 * r.val = t.val * 1024 + r.val; omega
    | ⟨1, _⟩ => show win1_5.index t 1 * 128 + 1 * d.val = d.val; omega
  have er : ((cfg1.win 5).blk t).view.read (Elt Ideal) (res5 V c) (ix2 r d) = res5 V c (ix2 (row t r) d) :=
    congrArg (res5 V c) e
  rw [er]
  show (dat1 V c).after 5 t (ix2 r d) = _
  rw [after1_5, tile5]
  exact headAt_eq V c t 7 (by omega) r d

theorem covered5 (i : S8192x128.Idx) : ∃ t : Fin cfg1.N, (cfg1.win 5).flush t = true ∧ i ∈ ((cfg1.win 5).blk t).view.set := by
  have h0 : (i 0 : Nat) < 8192 := (i 0).isLt
  have h1 : (i 1 : Nat) < 128 := (i 1).isLt
  have hN : cfg1.N = 8 := N_1
  refine ⟨⟨(i 0 : Nat) / 1024, by omega⟩, flush1_5 _, ?_⟩
  generalize ht : (⟨(i 0 : Nat) / 1024, _⟩ : Fin cfg1.N) = t
  have hv : t.val = (i 0 : Nat) / 1024 := by rw [← ht]
  have h := (idx t).2.2.2.2.2.1
  show i ∈ ((View.whole main_v4_1).slice (win1_5.rect t)).set
  rw [View.set_slice_whole, Rect.mem_set_unit]
  intro a
  match a with
  | ⟨0, _⟩ => show win1_5.index t 0 * 1024 ≤ (i 0 : Nat) ∧ (i 0 : Nat) < win1_5.index t 0 * 1024 + 1024; omega
  | ⟨1, _⟩ => show win1_5.index t 1 * 128 ≤ (i 1 : Nat) ∧ (i 1 : Nat) < win1_5.index t 1 * 128 + 128; omega

/-- The array after the run. -/
theorem final5 (c : Dev nD) : (dat1 V c).arrAt 5 cfg1.N = res5 V c :=
  (dat1 V c).arrAt_eq_of_cover 5 (res5 V c) (fun t _ => flushed5 V c t) covered5

/-- The values. -/
def res6 (c : Dev nD) : Vec Ideal S8192x128 .bf16 := fun j => projAt V c 8 (by omega) (j 0) (j 1)

theorem flushed6 (c : Dev nD) (t : Fin cfg1.N) :
    (dat1 V c).flushed 6 t = ((cfg1.win 6).blk t).view.read (Elt Ideal) (res6 V c) := by
  have h := (idx t).2.2.2.2.2.2
  funext j
  obtain ⟨r, d, rfl⟩ : ∃ (r : Fin 1024) (d : Fin 128), j = ix2 r d := ⟨j 0, j 1, eq_ix2 j⟩
  have e : ((cfg1.win 6).blk t).view.emb (ix2 r d) = ix2 (row t r) d := by
    funext a; apply Fin.ext
    match a with
    | ⟨0, _⟩ => show win1_6.index t 0 * 1024 + 1 * r.val = t.val * 1024 + r.val; omega
    | ⟨1, _⟩ => show win1_6.index t 1 * 128 + 1 * d.val = d.val; omega
  have er : ((cfg1.win 6).blk t).view.read (Elt Ideal) (res6 V c) (ix2 r d) = res6 V c (ix2 (row t r) d) :=
    congrArg (res6 V c) e
  rw [er]
  show (dat1 V c).after 6 t (ix2 r d) = _
  rw [after1_6, tile6]
  exact headAt_eq V c t 8 (by omega) r d

theorem covered6 (i : S8192x128.Idx) : ∃ t : Fin cfg1.N, (cfg1.win 6).flush t = true ∧ i ∈ ((cfg1.win 6).blk t).view.set := by
  have h0 : (i 0 : Nat) < 8192 := (i 0).isLt
  have h1 : (i 1 : Nat) < 128 := (i 1).isLt
  have hN : cfg1.N = 8 := N_1
  refine ⟨⟨(i 0 : Nat) / 1024, by omega⟩, flush1_6 _, ?_⟩
  generalize ht : (⟨(i 0 : Nat) / 1024, _⟩ : Fin cfg1.N) = t
  have hv : t.val = (i 0 : Nat) / 1024 := by rw [← ht]
  have h := (idx t).2.2.2.2.2.2
  show i ∈ ((View.whole main_v4_2).slice (win1_6.rect t)).set
  rw [View.set_slice_whole, Rect.mem_set_unit]
  intro a
  match a with
  | ⟨0, _⟩ => show win1_6.index t 0 * 1024 ≤ (i 0 : Nat) ∧ (i 0 : Nat) < win1_6.index t 0 * 1024 + 1024; omega
  | ⟨1, _⟩ => show win1_6.index t 1 * 128 ≤ (i 1 : Nat) ∧ (i 1 : Nat) < win1_6.index t 1 * 128 + 128; omega

/-- The array after the run. -/
theorem final6 (c : Dev nD) : (dat1 V c).arrAt 6 cfg1.N = res6 V c :=
  (dat1 V c).arrAt_eq_of_cover 6 (res6 V c) (fun t _ => flushed6 V c t) covered6

end Cert.KernelIdeal.QkvVal

end
-- ==== Proof.FfVal.lean ====
/- The gated hidden layer over the extended reals, block by block: the hidden values a point computes (`hblk_apply`), the
   largest magnitudes the second scratch buffer gathers (`amax2_le`), and what the last point of some rows makes of them
   (`tile6`, `tile7`, `tile8`). -/
module

public import proofs.«01_k».proof.Proof.Spec
public import proofs.«01_k».proof.Proof.RegionFf
public import Idealize.ShloMosaic.Lib.Pipeline.Value
public import Idealize.ShloMosaic.Lib.Pointwise

@[expose] public section

set_option maxRecDepth 16384

noncomputable section

namespace Cert.KernelIdeal.FfVal

open Cert.KernelIdeal Cert.KernelIdeal.Gen Cert.KernelIdeal.Run Idealize.ShloMosaic Idealize.ShloMosaic.TcCoe Idealize.SL.Sem
open Idealize.ShloMosaic.Pipeline (Dat)

/-! ## One block -/

theorem ofBits_one' : Ideal.ofBits FTy.f32 1065353216#32 = 1 := Spec.ofBits_one

theorem gate_eq (a b : EReal) :
    a * Ideal.div (Ideal.ofBits FTy.f32 1065353216#32) (Ideal.ofBits FTy.f32 1065353216#32 + Ideal.exp (Ideal.ofBits FTy.f32 0#32 - a)) * b = Spec.gated a b := by
  rw [ofBits_one', Spec.ofBits_zero, zero_sub]
  rfl

/-- The two halves of the weights of a point, one after the other, times the codes. -/
def both (wg wu : FVec Ideal S128x3584 .fp8e4m3) (xc : FVec Ideal S1024x3584 .fp8e4m3) : FVec Ideal S1024x256 .f32 :=
  matmul (φ₁ := .fp8e4m3) (φ₂ := .fp8e4m3) dot_S1024x3584_S256x3584_S1024x256_1_1_0_0_n_n none (shapeCast S1024x3584 xc shapeCasts_S1024x3584_S1024x3584)
    (concatenate S256x3584 0 [⟨S128x3584, wg⟩, ⟨S128x3584, wu⟩] concatenates_S128x3584_S128x3584_S256x3584_d0) (constant S1024x256 .f32 0x00000000#32)
theorem both_gate (wg wu : Vec Ideal S128x3584 .fp8e4m3) (xc : Vec Ideal S1024x3584 .fp8e4m3) (r : Fin 1024) (d : Fin 128) :
    both wg wu xc (ix2 r ⟨d.val, by omega⟩) = ∑ k : Fin 3584, xc (ix2 r k) * wg (ix2 d k) := by
  unfold both
  pointwise
theorem both_up (wg wu : Vec Ideal S128x3584 .fp8e4m3) (xc : Vec Ideal S1024x3584 .fp8e4m3) (r : Fin 1024) (d : Fin 128) :
    both wg wu xc (ix2 r ⟨128 + d.val, by omega⟩) = ∑ k : Fin 3584, xc (ix2 r k) * wu (ix2 d k) := by
  unfold both
  pointwise

/-- The scaled product, as a block. -/
def gateV (b : FVec Ideal S1024x256 .f32) (xs : Vec Ideal S1024x128 .f32) (s : Vec Ideal S1x1x128 .f32) : FVec Ideal S1024x128 .f32 :=
  mulf (mulf (extractStridedSlice S1024x128 ![0, 0] b slices_S1024x256_o0_0_S1024x128) (shapeCast S1024x128 xs shapeCasts_S1024x128_S1024x128))
    (broadcastTo S1024x128 (shapeCast S1x128 s shapeCasts_S1x1x128_S1x128) broadcasts_S1x128_S1024x128)
def upV (b : FVec Ideal S1024x256 .f32) (xs : Vec Ideal S1024x128 .f32) (s : Vec Ideal S1x1x128 .f32) : FVec Ideal S1024x128 .f32 :=
  mulf (mulf (extractStridedSlice S1024x128 ![0, 128] b slices_S1024x256_o0_128_S1024x128) (shapeCast S1024x128 xs shapeCasts_S1024x128_S1024x128))
    (broadcastTo S1024x128 (shapeCast S1x128 s shapeCasts_S1x1x128_S1x128) broadcasts_S1x128_S1024x128)
theorem gateV_apply (b : FVec Ideal S1024x256 .f32) (xs : Vec Ideal S1024x128 .f32) (s : Vec Ideal S1x1x128 .f32) (r : Fin 1024) (d : Fin 128) :
    gateV b xs s (ix2 r d) = b (ix2 r ⟨d.val, by omega⟩) * xs (ix2 r d) * s (ix3 0 0 d) := by
  unfold gateV
  pointwise
theorem upV_apply (b : FVec Ideal S1024x256 .f32) (xs : Vec Ideal S1024x128 .f32) (s : Vec Ideal S1x1x128 .f32) (r : Fin 1024) (d : Fin 128) :
    upV b xs s (ix2 r d) = b (ix2 r ⟨128 + d.val, by omega⟩) * xs (ix2 r d) * s (ix3 0 0 d) := by
  unfold upV
  pointwise

/-- The hidden values of one block. -/
theorem h_apply (wg wu : Vec Ideal S128x3584 .fp8e4m3) (xc : Vec Ideal S1024x3584 .fp8e4m3) (xs : Vec Ideal S1024x128 .f32) (sg su : Vec Ideal S1x1x128 .f32)
    (r : Fin 1024) (d : Fin 128) :
    k2_pay56 (F := Ideal) wg wu xc xs sg su (ix2 r d)
      = Spec.gated (Spec.scaledDot (fun k : Fin 3584 => xc (ix2 r k)) (fun k => wg (ix2 d k)) (xs (ix2 r d)) (sg (ix3 0 0 d)))
          (Spec.scaledDot (fun k : Fin 3584 => xc (ix2 r k)) (fun k => wu (ix2 d k)) (xs (ix2 r d)) (su (ix3 0 0 d))) := by
  refine Eq.trans (b := gateV (both wg wu xc) xs sg (ix2 r d)
    * Ideal.div (Ideal.ofBits FTy.f32 1065353216#32) (Ideal.ofBits FTy.f32 1065353216#32 + Ideal.exp (Ideal.ofBits FTy.f32 0#32 - gateV (both wg wu xc) xs sg (ix2 r d)))
    * upV (both wg wu xc) xs su (ix2 r d)) rfl ?_
  rw [gate_eq, gateV_apply, upV_apply, both_gate, both_up]
  rfl

theorem lead_apply (z : FVec Ideal S1024x128 .f32) (r : Fin 1024) (d : Fin 128) :
    shapeCast S1x1024x128 z shapeCasts_S1024x128_S1x1024x128 (ix3 0 r d) = z (ix2 r d) := by
  pointwise

theorem hz : (![0, 0] : Fin 2 → Nat) = fun _ => 0 := funext fun a => by fin_cases a <;> rfl
theorem hz3 : (![0, 0, 0] : Fin 3 → Nat) = fun _ => 0 := funext fun a => by fin_cases a <;> rfl

/-- A magnitude. -/
abbrev mag (x : EReal) : EReal := FloatOps.absf (F := Ideal) (φ := .f32) x
theorem mag_nonneg (x : EReal) : 0 ≤ mag x := by
  show 0 ≤ max x (-x)
  rcases le_total 0 x with h | h
  · exact le_max_of_le_left h
  · exact le_max_of_le_right (EReal.neg_nonneg.mpr h)

theorem ident (v : FVec Ideal S1024x128 .f32) : shapeCast S1024x128 v shapeCasts_S1024x128_S1024x128 = v := by
  funext j
  obtain ⟨r, d, rfl⟩ : ∃ (r : Fin 1024) (d : Fin 128), j = ix2 r d := ⟨j 0, j 1, eq_ix2 j⟩
  pointwise
/-- The largest magnitudes restarted, -/
theorem pay1_start (h a : FVec Ideal S1024x128 .f32) (b : BitVec 1) (hb : b = 1#1) (r : Fin 1024) (d : Fin 128) :
    k2_pay1 (F := Ideal) h b a (ix2 r d) = max 0 (mag (h (ix2 r d))) := by
  subst hb
  unfold k2_pay1
  rw [ident]
  show max (Ideal.ofBits FTy.f32 0#32) _ = _
  rw [Spec.ofBits_zero]
  rfl
/-- and carried on. -/
theorem pay1_go (h a : FVec Ideal S1024x128 .f32) (b : BitVec 1) (hb : ¬ b = 1#1) (r : Fin 1024) (d : Fin 128) :
    k2_pay1 (F := Ideal) h b a (ix2 r d) = max (a (ix2 r d)) (mag (h (ix2 r d))) := by
  unfold k2_pay1
  rw [ident]
  show max (Scalar.select b (broadcast S1024x128 (Scalar.ofBits .f32 0x00000000#32)) a (ix2 r d)) _ = _
  unfold Scalar.select
  rw [if_neg (show ¬ b = 1 from hb)]
  rfl

/-! ## The scale of a row from its largest magnitudes -/

section Ladder
variable {F : FTy → Type} [FloatOps F]

theorem step7 (a : Vec F S1024x128 .f32) :
    k2_pay7 a = Spec.lstep (k2_pay6 a) 32#32 (Spec.lstep (k2_pay6 a) 64#32 (Spec.lstep (k2_pay6 a) 128#32 (broadcast S1024x1 0#32))) := rfl
theorem step8 (a : Vec F S1024x128 .f32) : k2_pay8 a = addi (k2_pay7 a) (broadcast S1024x1 16#32) := rfl
theorem step9 (X : FVec F S1024x1 .f32) (f : IVec S1024x1 32) :
    k2_pay9 X f (addi f (broadcast S1024x1 16#32)) 254#32 = Spec.lstep X 2#32 (Spec.lstep X 4#32 (Spec.lstep X 8#32 (Spec.lstep X 16#32 f))) := rfl
theorem step10 (X : FVec F S1024x1 .f32) (f g : IVec S1024x1 32) : k2_pay10 X f g 254#32 = addi (k2_pay9 X f g 254#32) (broadcast S1024x1 1#32) := rfl
theorem step11 (a X : FVec F S1024x1 .f32) (f : IVec S1024x1 32) :
    k2_pay11 a X f (addi f (broadcast S1024x1 1#32)) 254#32 = Spec.vfix a (Spec.lstep X 1#32 f) := rfl

theorem field_eq (a : Vec F S1024x128 .f32) :
    k2_pay11 (k2_pay5 a) (k2_pay6 a) (k2_pay9 (k2_pay6 a) (k2_pay7 a) (k2_pay8 a) 254#32) (k2_pay10 (k2_pay6 a) (k2_pay7 a) (k2_pay8 a) 254#32) 254#32
      = Spec.vfix (k2_pay5 a) (Spec.vfield (k2_pay6 a)) := by
  rw [step10, step11, step8, step9, step7]
  rfl
theorem scale_vec (a : Vec F S1024x128 .f32) : scale2 a = Spec.vscale (k2_pay5 a) (Spec.vfield (k2_pay6 a)) := by
  refine Eq.trans (b := bitcastToFloat .f32 (shli (addi (k2_pay11 (k2_pay5 a) (k2_pay6 a) (k2_pay9 (k2_pay6 a) (k2_pay7 a) (k2_pay8 a) 254#32) (k2_pay10 (k2_pay6 a) (k2_pay7 a) (k2_pay8 a) 254#32) 254#32) (broadcast S1024x1 1#32)) (broadcast S1024x1 23#32))) rfl ?_
  rw [field_eq]
  rfl
theorem inv_vec (a : Vec F S1024x128 .f32) : inv2 a = broadcastTo S1024x128 (shapeCast S1024x1 (Spec.vinv (k2_pay5 a) (Spec.vfield (k2_pay6 a))) shapeCasts_S1024x1_S1024x1) broadcasts_S1024x1_S1024x128 := by
  refine Eq.trans (b := broadcastTo S1024x128 (shapeCast S1024x1 (bitcastToFloat .f32 (shli (subi (broadcast S1024x1 253#32) (k2_pay11 (k2_pay5 a) (k2_pay6 a) (k2_pay9 (k2_pay6 a) (k2_pay7 a) (k2_pay8 a) 254#32) (k2_pay10 (k2_pay6 a) (k2_pay7 a) (k2_pay8 a) 254#32) 254#32)) (broadcast S1024x1 23#32))) shapeCasts_S1024x1_S1024x1) broadcasts_S1024x1_S1024x128) rfl ?_
  rw [field_eq]
  rfl
end Ladder

theorem over_apply (a : Vec Ideal S1024x128 .f32) (i : S1024x1.Idx) : k2_pay6 (F := Ideal) a i = Spec.over448 (k2_pay5 (F := Ideal) a i) := rfl

theorem wide_vec (s : FVec Ideal S1024x1 .f32) (r : Fin 1024) (l : Fin 128) : k2_pay3 (F := Ideal) s (ix2 r l) = s (ix2 r 0) := by
  pointwise [k2_pay3]
theorem row_vec (s : FVec Ideal S1024x1 .f32) (r : Fin 1024) : k2_pay4 (F := Ideal) s (ix2 0 r) = s (ix2 r 0) := by
  pointwise [k2_pay4, k2_pay3]

theorem scale_apply (a : Vec Ideal S1024x128 .f32) (r : Fin 1024) : scale2 (F := Ideal) a (ix2 r 0) = Spec.scaleOf (k2_pay5 (F := Ideal) a (ix2 r 0)) := by
  rw [scale_vec]
  exact Spec.vscale_apply _ _ _ (over_apply a _)
theorem inv_apply (a : Vec Ideal S1024x128 .f32) (r : Fin 1024) (l : Fin 128) :
    inv2 (F := Ideal) a (ix2 r l) = Spec.invOf (Spec.scaleOf (k2_pay5 (F := Ideal) a (ix2 r 0))) := by
  rw [inv_vec]
  exact (wide_vec _ r l).trans (Spec.vinv_apply _ _ _ (over_apply a _))

def laneMax (a : FVec Ideal S1024x128 .f32) : FVec Ideal S1024 .f32 :=
  multiReduction .maximumf [1] S1024 a 0xFF800000#32 reduces_S1024x128_S1024 (.inl rfl) rfl
theorem laneMax_apply (a : FVec Ideal S1024x128 .f32) (r : Fin 1024) :
    laneMax a (ix1 r) = Finset.univ.fold max (Ideal.ofBits FTy.f32 4286578688#32) fun l : Fin 128 => a (ix2 r l) := by
  unfold laneMax
  simp only [pointwise]
theorem col_of_vec (a : FVec Ideal S1024 .f32) (r : Fin 1024) : shapeCast S1024x1 a shapeCasts_S1024_S1024x1 (ix2 r 0) = a (ix1 r) := by
  pointwise
theorem lanes_apply (a : Vec Ideal S1024x128 .f32) (r : Fin 1024) :
    k2_pay5 (F := Ideal) a (ix2 r 0) = Finset.univ.fold max (Ideal.ofBits FTy.f32 4286578688#32) fun l : Fin 128 => a (ix2 r l) :=
  (col_of_vec (laneMax a) r).trans (laneMax_apply a r)

/-! ## The stores of the last point of some rows -/

theorem codes_vec (inv : FVec Ideal S1024x128 .f32) (h : Vec Ideal S1x1024x128 .f32) (r : Fin 1024) (l : Fin 128) :
    k2_pay15 (F := Ideal) inv h (ix2 r l) = min (Ideal.ofBits FTy.f32 1138753536#32) (max (Ideal.ofBits FTy.f32 3286237184#32)
      (h (ix3 0 r l) * inv (ix2 r l))) := by
  pointwise [k2_pay15]

/-- The block of the column `k`, and its lane. -/
def blkOf (k : Fin 4736) : Fin 37 := ⟨k.val / 128, by omega⟩
def laneOf (k : Fin 4736) : Fin 128 := ⟨k.val % 128, by omega⟩

/-- The codes, from the scratch buffers. -/
def codesOf (s : Vec Ideal S37x1024x128 .f32) (a : Vec Ideal S1024x128 .f32) : Vec Ideal S1024x4736 .fp8e4m3 := fun y =>
  Spec.codeOf (s (ix3 (blkOf (y 1)) (y 0) (laneOf (y 1)))) (Spec.scaleOf (k2_pay5 (F := Ideal) a (ix2 (y 0) 0)))

theorem ld_slice (s : Vec Ideal S37x1024x128 .f32) (j : Fin 37) (r : Fin 1024) (l : Fin 128) :
    View.ld s (rs2 j) (ix3 0 r l) = s (ix3 j r l) := by
  show s _ = _
  congr 1; funext a; apply Fin.ext
  match a with
  | ⟨0, _⟩ => show j.val + 1 * 0 = j.val; omega
  | ⟨1, _⟩ => show 0 + 1 * r.val = r.val; omega
  | ⟨2, _⟩ => show 0 + 1 * l.val = l.val; omega

theorem emb_block (j : Fin 37) (r : Fin 1024) (l : Fin 128) : (ro2 j).emb (ix2 r l) = ix2 r ⟨128 * j.val + l.val, by omega⟩ := by
  funext a; apply Fin.ext
  match a with
  | ⟨0, _⟩ => show 0 + 1 * r.val = r.val; omega
  | ⟨1, _⟩ => show 128 * j.val + 1 * l.val = 128 * j.val + l.val; omega
theorem blkOf_at (j : Fin 37) (l : Fin 128) : blkOf ⟨128 * j.val + l.val, by omega⟩ = j := Fin.ext (by show (128 * j.val + l.val) / 128 = j.val; omega)
theorem laneOf_at (j : Fin 37) (l : Fin 128) : laneOf ⟨128 * j.val + l.val, by omega⟩ = l := Fin.ext (by show (128 * j.val + l.val) % 128 = l.val; omega)

theorem tile6 (s : Vec Ideal S37x1024x128 .f32) (a : Vec Ideal S1024x128 .f32) (y : S1024x4736.Idx) : out2_6 (F := Ideal) s a y = codesOf s a y := by
  refine View.canon_apply_of_pieces (codesOf s a) _ ?_ y (cover2_6 s a y)
  intro p hp x
  unfold codes2 at hp
  rw [List.mem_ofFn] at hp
  obtain ⟨k, rfl⟩ := hp
  obtain ⟨r, l, rfl⟩ : ∃ (r : Fin 1024) (l : Fin 128), x = ix2 r l := ⟨x 0, x 1, eq_ix2 x⟩
  show k2_pay15 (F := Ideal) (inv2 a) (View.ld s (rs2 k.rev)) (ix2 r l) = codesOf s a ((ro2 k.rev).emb (ix2 r l))
  rw [codes_vec, inv_apply, ld_slice, emb_block]
  show _ = Spec.codeOf (s (ix3 (blkOf ⟨128 * k.rev.val + l.val, _⟩) r (laneOf ⟨128 * k.rev.val + l.val, _⟩))) _
  rw [blkOf_at, laneOf_at]
  rfl

end Cert.KernelIdeal.FfVal

end
-- ==== Proof.FfArr.lean ====
/- The gated hidden layer over the extended reals: the arrays the call leaves are the codes and the scales of the hidden
   rows (`final6`, `final7`, `final8`). -/
module

public import proofs.«01_k».proof.Proof.Spec
public import proofs.«01_k».proof.Proof.FfVal
public import Idealize.ShloMosaic.Lib.Pipeline.Value
public import Idealize.ShloMosaic.Lib.Pointwise

@[expose] public section

set_option maxRecDepth 16384

noncomputable section

namespace Cert.KernelIdeal.FfVal

open Cert.KernelIdeal Cert.KernelIdeal.Gen Cert.KernelIdeal.Run Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block of each array the grid point `t` works on. -/
theorem idx (t : Fin cfg2.N) :
    (win2_0.index t 0 = t.val / 37 ∧ win2_0.index t 1 = 0)
    ∧ (win2_1.index t 0 = 9 + t.val % 37 ∧ win2_1.index t 1 = 0)
    ∧ (win2_2.index t 0 = 46 + t.val % 37 ∧ win2_2.index t 1 = 0)
    ∧ (win2_3.index t 0 = t.val / 37 ∧ win2_3.index t 1 = 0)
    ∧ (win2_4.index t 0 = 9 + t.val % 37 ∧ win2_4.index t 1 = 0 ∧ win2_4.index t 2 = 0)
    ∧ (win2_5.index t 0 = 46 + t.val % 37 ∧ win2_5.index t 1 = 0 ∧ win2_5.index t 2 = 0)
    ∧ (win2_6.index t 0 = t.val / 37 ∧ win2_6.index t 1 = 0)
    ∧ (win2_7.index t 0 = 0 ∧ win2_7.index t 1 = t.val / 37)
    ∧ (win2_8.index t 0 = t.val / 37 ∧ win2_8.index t 1 = 0) :=
  (by decide +kernel : ∀ t : Fin grid2.N,
    (win2_0.index t 0 = t.val / 37 ∧ win2_0.index t 1 = 0)
    ∧ (win2_1.index t 0 = 9 + t.val % 37 ∧ win2_1.index t 1 = 0)
    ∧ (win2_2.index t 0 = 46 + t.val % 37 ∧ win2_2.index t 1 = 0)
    ∧ (win2_3.index t 0 = t.val / 37 ∧ win2_3.index t 1 = 0)
    ∧ (win2_4.index t 0 = 9 + t.val % 37 ∧ win2_4.index t 1 = 0 ∧ win2_4.index t 2 = 0)
    ∧ (win2_5.index t 0 = 46 + t.val % 37 ∧ win2_5.index t 1 = 0 ∧ win2_5.index t 2 = 0)
    ∧ (win2_6.index t 0 = t.val / 37 ∧ win2_6.index t 1 = 0)
    ∧ (win2_7.index t 0 = 0 ∧ win2_7.index t 1 = t.val / 37)
    ∧ (win2_8.index t 0 = t.val / 37 ∧ win2_8.index t 1 = 0)) t

/-- The array row that row `r` of the rows of point `n` is. -/
def rowN (n : ℕ) (hn : n < cfg2.N) (r : Fin 1024) : Fin 8192 :=
  ⟨n / 37 * 1024 + r.val, by have hN : cfg2.N = 296 := N_2; have := r.isLt; omega⟩
abbrev row (t : Fin cfg2.N) (r : Fin 1024) : Fin 8192 := rowN t.val t.isLt r

theorem blk0 (c : Dev nD) (t : Fin cfg2.N) (r : Fin 1024) (k : Fin 3584) :
    (iblk2 V c 0 t : Vec Ideal S1024x3584 .fp8e4m3) (ix2 r k) = V c main_v2_0 (ix2 (row t r) k) := by
  have h := (idx t).1
  show V c main_v2_0 (((cfg2.win 0).blk t).view.emb (ix2 r k)) = _
  congr 1; funext a; apply Fin.ext
  match a with
  | ⟨0, _⟩ => show win2_0.index t 0 * 1024 + 1 * r.val = t.val / 37 * 1024 + r.val; omega
  | ⟨1, _⟩ => show win2_0.index t 1 * 3584 + 1 * k.val = k.val; omega

theorem blk1 (c : Dev nD) (t : Fin cfg2.N) (d : Fin 128) (k : Fin 3584) :
    (iblk2 V c 1 t : Vec Ideal S128x3584 .fp8e4m3) (ix2 d k) = V c main_arg2 (ix2 ⟨128 * (9 + t.val % 37) + d.val, by omega⟩ k) := by
  have h := (idx t).2.1
  show V c main_arg2 (((cfg2.win 1).blk t).view.emb (ix2 d k)) = _
  congr 1; funext a; apply Fin.ext
  match a with
  | ⟨0, _⟩ => show win2_1.index t 0 * 128 + 1 * d.val = 128 * (9 + t.val % 37) + d.val; omega
  | ⟨1, _⟩ => show win2_1.index t 1 * 3584 + 1 * k.val = k.val; omega

theorem blk2 (c : Dev nD) (t : Fin cfg2.N) (d : Fin 128) (k : Fin 3584) :
    (iblk2 V c 2 t : Vec Ideal S128x3584 .fp8e4m3) (ix2 d k) = V c main_arg2 (ix2 ⟨128 * (46 + t.val % 37) + d.val, by omega⟩ k) := by
  have h := (idx t).2.2.1
  show V c main_arg2 (((cfg2.win 2).blk t).view.emb (ix2 d k)) = _
  congr 1; funext a; apply Fin.ext
  match a with
  | ⟨0, _⟩ => show win2_2.index t 0 * 128 + 1 * d.val = 128 * (46 + t.val % 37) + d.val; omega
  | ⟨1, _⟩ => show win2_2.index t 1 * 3584 + 1 * k.val = k.val; omega

theorem blk3 (c : Dev nD) (t : Fin cfg2.N) (r : Fin 1024) (l : Fin 128) :
    (iblk2 V c 3 t : Vec Ideal S1024x128 .f32) (ix2 r l) = V c main_v2_2 (ix2 (row t r) l) := by
  have h := (idx t).2.2.2.1
  show V c main_v2_2 (((cfg2.win 3).blk t).view.emb (ix2 r l)) = _
  congr 1; funext a; apply Fin.ext
  match a with
  | ⟨0, _⟩ => show win2_3.index t 0 * 1024 + 1 * r.val = t.val / 37 * 1024 + r.val; omega
  | ⟨1, _⟩ => show win2_3.index t 1 * 128 + 1 * l.val = l.val; omega

theorem blk4 (c : Dev nD) (t : Fin cfg2.N) (d : Fin 128) :
    (iblk2 V c 4 t : Vec Ideal S1x1x128 .f32) (ix3 0 0 d) = V c main_v3 (ix3 ⟨9 + t.val % 37, by omega⟩ 0 d) := by
  have h := (idx t).2.2.2.2.1
  show V c main_v3 (((cfg2.win 4).blk t).view.emb (ix3 0 0 d)) = _
  congr 1; funext a; apply Fin.ext
  match a with
  | ⟨0, _⟩ => show win2_4.index t 0 * 1 + 1 * 0 = 9 + t.val % 37; omega
  | ⟨1, _⟩ => show win2_4.index t 1 * 1 + 1 * 0 = 0; omega
  | ⟨2, _⟩ => show win2_4.index t 2 * 128 + 1 * d.val = d.val; omega

theorem blk5 (c : Dev nD) (t : Fin cfg2.N) (d : Fin 128) :
    (iblk2 V c 5 t : Vec Ideal S1x1x128 .f32) (ix3 0 0 d) = V c main_v3 (ix3 ⟨46 + t.val % 37, by omega⟩ 0 d) := by
  have h := (idx t).2.2.2.2.2.1
  show V c main_v3 (((cfg2.win 5).blk t).view.emb (ix3 0 0 d)) = _
  congr 1; funext a; apply Fin.ext
  match a with
  | ⟨0, _⟩ => show win2_5.index t 0 * 1 + 1 * 0 = 46 + t.val % 37; omega
  | ⟨1, _⟩ => show win2_5.index t 1 * 1 + 1 * 0 = 0; omega
  | ⟨2, _⟩ => show win2_5.index t 2 * 128 + 1 * d.val = d.val; omega

/-- One scaled product, of an array row with a row of the weights given by its block and its lane. -/
def part (c : Dev nD) (r : Fin 8192) (o : ℕ) (ho : o < 83) (l : Fin 128) : EReal :=
  Spec.scaledDot (fun k : Fin 3584 => V c main_v2_0 (ix2 r k)) (fun k => V c main_arg2 (ix2 ⟨128 * o + l.val, by omega⟩ k))
    (V c main_v2_2 (ix2 r l)) (V c main_v3 (ix3 ⟨o, ho⟩ 0 l))
/-- The hidden value of an array row at a block and a lane … -/
def hidAt (c : Dev nD) (r : Fin 8192) (j : Fin 37) (l : Fin 128) : EReal :=
  Spec.gated (part V c r (9 + j.val) (by omega) l) (part V c r (46 + j.val) (by omega) l)
/-- … and at a column. -/
def hidCol (c : Dev nD) (r : Fin 8192) (k : Fin 4736) : EReal := hidAt V c r (blkOf k) (laneOf k)

/-- The block of the rows that a point computes. -/
def jOf (n : ℕ) : Fin 37 := ⟨n % 37, Nat.mod_lt _ (by norm_num)⟩

theorem hblk_apply (c : Dev nD) (t : Fin cfg2.N) (r : Fin 1024) (d : Fin 128) : hblk2 V c t (ix2 r d) = hidAt V c (row t r) (jOf t.val) d := by
  unfold hblk2 hOf
  rw [View.ld_unit_zero (S := S128x3584) hz, View.ld_unit_zero (S := S128x3584) hz, View.ld_unit_zero (S := S1024x3584) hz,
    View.ld_unit_zero (S := S1024x128) hz, View.ld_unit_zero (S := S1x1x128) hz3, View.ld_unit_zero (S := S1x1x128) hz3, h_apply, blk3, blk4, blk5]
  simp only [blk0, blk1, blk2]
  rfl

theorem hall_apply (c : Dev nD) (n : ℕ) (hn : n < cfg2.N) (j : Fin 37) (r : Fin 1024) (d : Fin 128) :
    hall2 V c n hn (ix3 j r d) = hidAt V c (rowN n hn r) j d := by
  have e : hall2 V c n hn (ix3 j r d) = hblk2 V c ⟨n - n % 37 + j.val, sub2 hn j⟩ (ix2 r d) := by
    refine Eq.trans (b := hblk2' V c ⟨n - n % 37 + j.val, sub2 hn j⟩ (ix3 0 r d)) ?_ (lead_apply (hblk2 V c ⟨n - n % 37 + j.val, sub2 hn j⟩) r d)
    unfold hall2
    congr 1
    funext a
    match a with
    | ⟨0, _⟩ => rfl
    | ⟨1, _⟩ => rfl
    | ⟨2, _⟩ => rfl
  rw [e, hblk_apply]
  have h1 : row ⟨n - n % 37 + j.val, sub2 hn j⟩ r = rowN n hn r := Fin.ext (by
    show (n - n % 37 + j.val) / 37 * 1024 + r.val = n / 37 * 1024 + r.val
    have := j.isLt
    omega)
  have h2 : jOf (n - n % 37 + j.val) = j := Fin.ext (by
    show (n - n % 37 + j.val) % 37 = j.val
    have := j.isLt
    omega)
  rw [h1]
  show hidAt V c _ (jOf (n - n % 37 + j.val)) d = _
  rw [h2]

/-- What the second scratch buffer holds after point `n` is at most `u` exactly if `u` is not negative and at most the
    magnitudes of the blocks computed since the first point of its rows are. -/
theorem amax2_le (c : Dev nD) (r : Fin 1024) (d : Fin 128) (u : EReal) : ∀ (n : ℕ) (hn : n < cfg2.N),
    amax2 V c n hn (ix2 r d) ≤ u ↔ 0 ≤ u ∧ ∀ i : Fin 37, i.val ≤ n % 37 → mag (hidAt V c (rowN n hn r) i d) ≤ u := by
  have first : ∀ (n : ℕ) (hn : n < cfg2.N) (a : Vec Ideal S1024x128 .f32), n % 37 = 0 →
      (k2_pay1 (F := Ideal) (hblk2 V c ⟨n, hn⟩) (isFirst (grid2.coords ⟨n, hn⟩)) a (ix2 r d) ≤ u
        ↔ 0 ≤ u ∧ ∀ i : Fin 37, i.val ≤ n % 37 → mag (hidAt V c (rowN n hn r) i d) ≤ u) := by
    intro n hn a h0
    rw [pay1_start _ _ _ ((hfirst2 ⟨n, hn⟩).mpr h0), hblk_apply, max_le_iff]
    refine and_congr_right fun _ => ⟨fun h i hi => ?_, fun h => h (jOf n) (le_of_eq rfl)⟩
    have e : jOf n = i := Fin.ext (by show n % 37 = i.val; omega)
    rw [← e]; exact h
  intro n
  induction n with
  | zero => intro hn; exact first 0 hn _ rfl
  | succ n ih =>
    intro hn
    by_cases h0 : (n + 1) % 37 = 0
    · exact first (n + 1) hn _ h0
    · show k2_pay1 (F := Ideal) (hblk2 V c ⟨n + 1, hn⟩) (isFirst (grid2.coords ⟨n + 1, hn⟩)) (amax2 V c n (Nat.lt_of_succ_lt hn)) (ix2 r d) ≤ u ↔ _
      have hnf : ¬ isFirst (grid2.coords ⟨n + 1, hn⟩) = 1#1 := fun hh => h0 ((hfirst2 ⟨n + 1, hn⟩).mp hh)
      rw [pay1_go _ _ _ hnf, hblk_apply, max_le_iff, ih (Nat.lt_of_succ_lt hn), and_assoc]
      have er : rowN n (Nat.lt_of_succ_lt hn) r = rowN (n + 1) hn r := Fin.ext (by
        show n / 37 * 1024 + r.val = (n + 1) / 37 * 1024 + r.val; omega)
      have em : (n + 1) % 37 = n % 37 + 1 := by omega
      rw [er]
      refine and_congr_right fun _ => ⟨fun h i hi => ?_, fun h => ⟨fun i hi => h i (by omega), h (jOf (n + 1)) (le_of_eq rfl)⟩⟩
      rcases Nat.lt_or_ge (n % 37) i.val with hlt | hge
      · have e : jOf (n + 1) = i := Fin.ext (by show (n + 1) % 37 = i.val; omega)
        rw [← e]; exact h.2
      · exact h.1 i hge

theorem ofBits_bot : Ideal.ofBits FTy.f32 4286578688#32 = ⊥ := by simp [Ideal.ofBits, Ideal.ieee]

/-- At the last point of some rows, the largest of a row's lanes is the largest magnitude of the hidden row. -/
theorem amax2_row (c : Dev nD) (n : ℕ) (hn : n < cfg2.N) (h36 : n % 37 = 36) (r : Fin 1024) :
    k2_pay5 (F := Ideal) (amax2 V c n hn) (ix2 r 0) = Spec.amax (hidCol V c (rowN n hn r)) := by
  rw [lanes_apply]
  refine eq_of_forall_ge_iff fun u => ?_
  unfold Spec.amax
  rw [Finset.fold_max_le, Finset.fold_max_le, ofBits_bot]
  refine and_congr_right fun _ => ⟨fun h k _ => ?_, fun h l _ => ?_⟩
  · exact ((amax2_le V c r (laneOf k) u n hn).mp (h (laneOf k) (Finset.mem_univ _))).2 (blkOf k) (by rw [h36]; have := (blkOf k).isLt; omega)
  · refine (amax2_le V c r l u n hn).mpr ⟨?_, fun i _ => ?_⟩
    · exact (mag_nonneg _).trans (h ⟨0, by norm_num⟩ (Finset.mem_univ _))
    · have := h ⟨128 * i.val + l.val, by omega⟩ (Finset.mem_univ _)
      unfold hidCol at this
      rw [blkOf_at, laneOf_at] at this
      exact this

/-- The codes of the hidden rows. -/
def res6 (c : Dev nD) : Vec Ideal S8192x4736 .fp8e4m3 := fun j => Spec.codeOf (hidCol V c (j 0) (j 1)) (Spec.rowScale (hidCol V c (j 0)))

theorem flushed6 (c : Dev nD) (t : Fin cfg2.N) (hf : (cfg2.win 6).flush t = true) :
    (dat2 V c).flushed 6 t = ((cfg2.win 6).blk t).view.read (Elt Ideal) (res6 V c) := by
  have h := (idx t).2.2.2.2.2.2.1
  have ht : t.val % 37 = 36 := (flush2_6 t).mp hf
  funext j
  obtain ⟨r, k, rfl⟩ : ∃ (r : Fin 1024) (k : Fin 4736), j = ix2 r k := ⟨j 0, j 1, eq_ix2 j⟩
  have e : ((cfg2.win 6).blk t).view.emb (ix2 r k) = ix2 (row t r) k := by
    funext a; apply Fin.ext
    match a with
    | ⟨0, _⟩ => show win2_6.index t 0 * 1024 + 1 * r.val = t.val / 37 * 1024 + r.val; omega
    | ⟨1, _⟩ => show win2_6.index t 1 * 4736 + 1 * k.val = k.val; omega
  have er : ((cfg2.win 6).blk t).view.read (Elt Ideal) (res6 V c) (ix2 r k) = res6 V c (ix2 (row t r) k) :=
    congrArg (res6 V c) e
  rw [er]
  show (dat2 V c).after 6 t (ix2 r k) = _
  rw [after2_6, tile6]
  show Spec.codeOf (hall2 V c t.val t.isLt (ix3 (blkOf k) r (laneOf k))) (Spec.scaleOf (k2_pay5 (F := Ideal) (amax2 V c t.val t.isLt) (ix2 r 0))) = _
  rw [hall_apply, amax2_row V c _ _ ht]
  rfl

theorem covered6 (i : S8192x4736.Idx) : ∃ t : Fin cfg2.N, (cfg2.win 6).flush t = true ∧ i ∈ ((cfg2.win 6).blk t).view.set := by
  have h0 : (i 0 : Nat) < 8192 := (i 0).isLt
  have h1 : (i 1 : Nat) < 4736 := (i 1).isLt
  have hN : cfg2.N = 296 := N_2
  refine ⟨⟨(i 0 : Nat) / 1024 * 37 + 36, by omega⟩, (flush2_6 _).mpr (by show ((i 0 : Nat) / 1024 * 37 + 36) % 37 = 36; omega), ?_⟩
  generalize ht : (⟨(i 0 : Nat) / 1024 * 37 + 36, _⟩ : Fin cfg2.N) = t
  have hv : t.val = (i 0 : Nat) / 1024 * 37 + 36 := by rw [← ht]
  have h := (idx t).2.2.2.2.2.2.1
  show i ∈ ((View.whole main_v5_0).slice (win2_6.rect t)).set
  rw [View.set_slice_whole, Rect.mem_set_unit]
  intro a
  match a with
  | ⟨0, _⟩ => show win2_6.index t 0 * 1024 ≤ (i 0 : Nat) ∧ (i 0 : Nat) < win2_6.index t 0 * 1024 + 1024; omega
  | ⟨1, _⟩ => show win2_6.index t 1 * 4736 ≤ (i 1 : Nat) ∧ (i 1 : Nat) < win2_6.index t 1 * 4736 + 4736; omega

/-- The array after the run. -/
theorem final6 (c : Dev nD) : (dat2 V c).arrAt 6 cfg2.N = res6 V c :=
  (dat2 V c).arrAt_eq_of_cover 6 (res6 V c) (fun t hf => flushed6 V c t hf) covered6

/-- Their scales, a row. -/
def res7 (c : Dev nD) : Vec Ideal S1x8192 .f32 := fun j => Spec.rowScale (hidCol V c (j 1))

theorem flushed7 (c : Dev nD) (t : Fin cfg2.N) (hf : (cfg2.win 7).flush t = true) :
    (dat2 V c).flushed 7 t = ((cfg2.win 7).blk t).view.read (Elt Ideal) (res7 V c) := by
  have h := (idx t).2.2.2.2.2.2.2.1
  have ht : t.val % 37 = 36 := (flush2_7 t).mp hf
  funext j
  obtain ⟨r, rfl⟩ : ∃ (r : Fin 1024), j = ix2 0 r := ⟨j 1, (eq_ix2 j).trans (by congr 1; exact Subsingleton.elim (α := Fin 1) _ _)⟩
  have e : ((cfg2.win 7).blk t).view.emb (ix2 0 r) = ix2 0 (row t r) := by
    funext a; apply Fin.ext
    match a with
    | ⟨0, _⟩ => show win2_7.index t 0 * 1 + 1 * 0 = 0; omega
    | ⟨1, _⟩ => show win2_7.index t 1 * 1024 + 1 * r.val = t.val / 37 * 1024 + r.val; omega
  have er : ((cfg2.win 7).blk t).view.read (Elt Ideal) (res7 V c) (ix2 0 r) = res7 V c (ix2 0 (row t r)) :=
    congrArg (res7 V c) e
  rw [er]
  show (dat2 V c).after 7 t (ix2 0 r) = _
  rw [after2_7]
  unfold out2_7
  rw [row_vec, scale_apply, amax2_row V c _ _ ht]
  rfl

theorem covered7 (i : S1x8192.Idx) : ∃ t : Fin cfg2.N, (cfg2.win 7).flush t = true ∧ i ∈ ((cfg2.win 7).blk t).view.set := by
  have h0 : (i 0 : Nat) < 1 := (i 0).isLt
  have h1 : (i 1 : Nat) < 8192 := (i 1).isLt
  have hN : cfg2.N = 296 := N_2
  refine ⟨⟨(i 1 : Nat) / 1024 * 37 + 36, by omega⟩, (flush2_7 _).mpr (by show ((i 1 : Nat) / 1024 * 37 + 36) % 37 = 36; omega), ?_⟩
  generalize ht : (⟨(i 1 : Nat) / 1024 * 37 + 36, _⟩ : Fin cfg2.N) = t
  have hv : t.val = (i 1 : Nat) / 1024 * 37 + 36 := by rw [← ht]
  have h := (idx t).2.2.2.2.2.2.2.1
  show i ∈ ((View.whole main_v5_1).slice (win2_7.rect t)).set
  rw [View.set_slice_whole, Rect.mem_set_unit]
  intro a
  match a with
  | ⟨0, _⟩ => show win2_7.index t 0 * 1 ≤ (i 0 : Nat) ∧ (i 0 : Nat) < win2_7.index t 0 * 1 + 1; omega
  | ⟨1, _⟩ => show win2_7.index t 1 * 1024 ≤ (i 1 : Nat) ∧ (i 1 : Nat) < win2_7.index t 1 * 1024 + 1024; omega

/-- The array after the run. -/
theorem final7 (c : Dev nD) : (dat2 V c).arrAt 7 cfg2.N = res7 V c :=
  (dat2 V c).arrAt_eq_of_cover 7 (res7 V c) (fun t hf => flushed7 V c t hf) covered7

/-- Their scales, over the lanes. -/
def res8 (c : Dev nD) : Vec Ideal S8192x128 .f32 := fun j => Spec.rowScale (hidCol V c (j 0))

theorem flushed8 (c : Dev nD) (t : Fin cfg2.N) (hf : (cfg2.win 8).flush t = true) :
    (dat2 V c).flushed 8 t = ((cfg2.win 8).blk t).view.read (Elt Ideal) (res8 V c) := by
  have h := (idx t).2.2.2.2.2.2.2.2
  have ht : t.val % 37 = 36 := (flush2_8 t).mp hf
  funext j
  obtain ⟨r, l, rfl⟩ : ∃ (r : Fin 1024) (l : Fin 128), j = ix2 r l := ⟨j 0, j 1, eq_ix2 j⟩
  have e : ((cfg2.win 8).blk t).view.emb (ix2 r l) = ix2 (row t r) l := by
    funext a; apply Fin.ext
    match a with
    | ⟨0, _⟩ => show win2_8.index t 0 * 1024 + 1 * r.val = t.val / 37 * 1024 + r.val; omega
    | ⟨1, _⟩ => show win2_8.index t 1 * 128 + 1 * l.val = l.val; omega
  have er : ((cfg2.win 8).blk t).view.read (Elt Ideal) (res8 V c) (ix2 r l) = res8 V c (ix2 (row t r) l) :=
    congrArg (res8 V c) e
  rw [er]
  show (dat2 V c).after 8 t (ix2 r l) = _
  rw [after2_8]
  unfold out2_8
  rw [wide_vec, scale_apply, amax2_row V c _ _ ht]
  rfl

theorem covered8 (i : S8192x128.Idx) : ∃ t : Fin cfg2.N, (cfg2.win 8).flush t = true ∧ i ∈ ((cfg2.win 8).blk t).view.set := by
  have h0 : (i 0 : Nat) < 8192 := (i 0).isLt
  have h1 : (i 1 : Nat) < 128 := (i 1).isLt
  have hN : cfg2.N = 296 := N_2
  refine ⟨⟨(i 0 : Nat) / 1024 * 37 + 36, by omega⟩, (flush2_8 _).mpr (by show ((i 0 : Nat) / 1024 * 37 + 36) % 37 = 36; omega), ?_⟩
  generalize ht : (⟨(i 0 : Nat) / 1024 * 37 + 36, _⟩ : Fin cfg2.N) = t
  have hv : t.val = (i 0 : Nat) / 1024 * 37 + 36 := by rw [← ht]
  have h := (idx t).2.2.2.2.2.2.2.2
  show i ∈ ((View.whole main_v5_2).slice (win2_8.rect t)).set
  rw [View.set_slice_whole, Rect.mem_set_unit]
  intro a
  match a with
  | ⟨0, _⟩ => show win2_8.index t 0 * 1024 ≤ (i 0 : Nat) ∧ (i 0 : Nat) < win2_8.index t 0 * 1024 + 1024; omega
  | ⟨1, _⟩ => show win2_8.index t 1 * 128 ≤ (i 1 : Nat) ∧ (i 1 : Nat) < win2_8.index t 1 * 128 + 128; omega

/-- The array after the run. -/
theorem final8 (c : Dev nD) : (dat2 V c).arrAt 8 cfg2.N = res8 V c :=
  (dat2 V c).arrAt_eq_of_cover 8 (res8 V c) (fun t hf => flushed8 V c t hf) covered8

end Cert.KernelIdeal.FfVal

end
-- ==== Proof.DownVal.lean ====
/- The down projection over the extended reals: the array it leaves is its residual plus the scaled product of its
   arguments (`final5`). -/
module

public import proofs.«01_k».proof.Proof.Spec
public import proofs.«01_k».proof.Proof.RegionDown
public import Idealize.ShloMosaic.Lib.Pipeline.Value
public import Idealize.ShloMosaic.Lib.Pointwise

@[expose] public section

set_option maxRecDepth 16384

noncomputable section

namespace Cert.KernelIdeal.DownVal

open Cert.KernelIdeal Cert.KernelIdeal.Gen Cert.KernelIdeal.Run Idealize.ShloMosaic Idealize.ShloMosaic.TcCoe Idealize.SL.Sem
open Idealize.ShloMosaic.Pipeline (Dat)

/-- One tile of the product, at a row and a column of the tile. -/
theorem tile_apply (hc : Vec Ideal S1024x4736 .fp8e4m3) (w : Vec Ideal S512x4736 .fp8e4m3) (hs : Vec Ideal S1024x128 .f32)
    (ws : Vec Ideal S1x512 .f32) (x : Vec Ideal S1024x512 .bf16) (r : Fin 1024) (n : Fin 512) :
    out3_5 (F := Ideal) hc w hs ws x (ix2 r n)
      = x (ix2 r n) + (∑ k : Fin 4736, hc (ix2 r k) * w (ix2 n k)) * hs (ix2 r 0) * ws (ix2 0 n) := by
  have hz : (![0, 0] : Fin 2 → Nat) = fun _ => 0 := funext fun a => by fin_cases a <;> rfl
  unfold out3_5
  rw [View.canon_unit_zero hz, View.ld_unit_zero (S := S1024x4736) hz, View.ld_unit_zero (S := S512x4736) hz,
    View.ld_unit_zero (S := S1x512) hz, View.ld_unit_zero (S := S1024x512) hz]
  pointwise [k3_pay1]

variable (V : (c : Dev nD) → (b : Ref sig .tc) → Buf (Elt Ideal) ((c : Thread nD τ).loc b))

/-- Which block of each array the grid point `t` works on. -/
theorem idx (t : Fin cfg3.N) :
    (win3_0.index t 0 = t.val / 7 ∧ win3_0.index t 1 = 0)
    ∧ (win3_1.index t 0 = t.val % 7 ∧ win3_1.index t 1 = 0)
    ∧ (win3_2.index t 0 = t.val / 7 ∧ win3_2.index t 1 = 0)
    ∧ (win3_3.index t 0 = 0 ∧ win3_3.index t 1 = t.val % 7)
    ∧ (win3_4.index t 0 = t.val / 7 ∧ win3_4.index t 1 = t.val % 7)
    ∧ (win3_5.index t 0 = t.val / 7 ∧ win3_5.index t 1 = t.val % 7) :=
  (by decide +kernel : ∀ t : Fin grid3.N,
    (win3_0.index t 0 = t.val / 7 ∧ win3_0.index t 1 = 0)
    ∧ (win3_1.index t 0 = t.val % 7 ∧ win3_1.index t 1 = 0)
    ∧ (win3_2.index t 0 = t.val / 7 ∧ win3_2.index t 1 = 0)
    ∧ (win3_3.index t 0 = 0 ∧ win3_3.index t 1 = t.val % 7)
    ∧ (win3_4.index t 0 = t.val / 7 ∧ win3_4.index t 1 = t.val % 7)
    ∧ (win3_5.index t 0 = t.val / 7 ∧ win3_5.index t 1 = t.val % 7)) t

/-- The array row that row `r` of a row block at point `t` is … -/
def row (t : Fin cfg3.N) (r : Fin 1024) : Fin 8192 :=
  ⟨t.val / 7 * 1024 + r.val, by have := t.isLt; have hN : cfg3.N = 56 := N_3; have := r.isLt; omega⟩
/-- … and the array column that column `n` of a column block is. -/
def col (t : Fin cfg3.N) (n : Fin 512) : Fin 3584 :=
  ⟨t.val % 7 * 512 + n.val, by have := n.isLt; omega⟩

/-- The call's arguments as functions of their coordinates: the residual, the codes, the weights and the scales. -/
abbrev Xr (c : Dev nD) (r : Fin 8192) (n : Fin 3584) : EReal := V c main_v0 (ix2 r n)
abbrev Hc (c : Dev nD) (r : Fin 8192) (k : Fin 4736) : EReal := V c main_v5_0 (ix2 r k)
abbrev W (c : Dev nD) (n : Fin 3584) (k : Fin 4736) : EReal := V c main_arg4 (ix2 n k)
abbrev Hs (c : Dev nD) (r : Fin 8192) : EReal := V c main_v5_2 (ix2 r 0)
abbrev Ws (c : Dev nD) (n : Fin 3584) : EReal := V c main_v6 (ix2 0 n)

theorem blk0 (c : Dev nD) (t : Fin cfg3.N) (r : Fin 1024) (k : Fin 4736) :
    (iblk3 V c 0 t : Vec Ideal S1024x4736 .fp8e4m3) (ix2 r k) = V c main_v5_0 (ix2 (row t r) k) := by
  have h := (idx t).1
  show V c main_v5_0 (((cfg3.win 0).blk t).view.emb (ix2 r k)) = _
  congr 1; funext a; apply Fin.ext
  match a with
  | ⟨0, _⟩ => show win3_0.index t 0 * 1024 + 1 * r.val = t.val / 7 * 1024 + r.val; omega
  | ⟨1, _⟩ => show win3_0.index t 1 * 4736 + 1 * k.val = k.val; omega

theorem blk1 (c : Dev nD) (t : Fin cfg3.N) (n : Fin 512) (k : Fin 4736) :
    (iblk3 V c 1 t : Vec Ideal S512x4736 .fp8e4m3) (ix2 n k) = V c main_arg4 (ix2 (col t n) k) := by
  have h := (idx t).2.1
  show V c main_arg4 (((cfg3.win 1).blk t).view.emb (ix2 n k)) = _
  congr 1; funext a; apply Fin.ext
  match a with
  | ⟨0, _⟩ => show win3_1.index t 0 * 512 + 1 * n.val = t.val % 7 * 512 + n.val; omega
  | ⟨1, _⟩ => show win3_1.index t 1 * 4736 + 1 * k.val = k.val; omega

theorem blk2 (c : Dev nD) (t : Fin cfg3.N) (r : Fin 1024) (k : Fin 128) :
    (iblk3 V c 2 t : Vec Ideal S1024x128 .f32) (ix2 r k) = V c main_v5_2 (ix2 (row t r) k) := by
  have h := (idx t).2.2.1
  show V c main_v5_2 (((cfg3.win 2).blk t).view.emb (ix2 r k)) = _
  congr 1; funext a; apply Fin.ext
  match a with
  | ⟨0, _⟩ => show win3_2.index t 0 * 1024 + 1 * r.val = t.val / 7 * 1024 + r.val; omega
  | ⟨1, _⟩ => show win3_2.index t 1 * 128 + 1 * k.val = k.val; omega

theorem blk3 (c : Dev nD) (t : Fin cfg3.N) (n : Fin 512) :
    (iblk3 V c 3 t : Vec Ideal S1x512 .f32) (ix2 0 n) = V c main_v6 (ix2 0 (col t n)) := by
  have h := (idx t).2.2.2.1
  show V c main_v6 (((cfg3.win 3).blk t).view.emb (ix2 0 n)) = _
  congr 1; funext a; apply Fin.ext
  match a with
  | ⟨0, _⟩ => show win3_3.index t 0 * 1 + 1 * 0 = 0; omega
  | ⟨1, _⟩ => show win3_3.index t 1 * 512 + 1 * n.val = t.val % 7 * 512 + n.val; omega

theorem blk4 (c : Dev nD) (t : Fin cfg3.N) (r : Fin 1024) (n : Fin 512) :
    (iblk3 V c 4 t : Vec Ideal S1024x512 .bf16) (ix2 r n) = V c main_v0 (ix2 (row t r) (col t n)) := by
  have h := (idx t).2.2.2.2.1
  show V c main_v0 (((cfg3.win 4).blk t).view.emb (ix2 r n)) = _
  congr 1; funext a; apply Fin.ext
  match a with
  | ⟨0, _⟩ => show win3_4.index t 0 * 1024 + 1 * r.val = t.val / 7 * 1024 + r.val; omega
  | ⟨1, _⟩ => show win3_4.index t 1 * 512 + 1 * n.val = t.val % 7 * 512 + n.val; omega

/-- The residual plus the scaled product. -/
def res5 (c : Dev nD) : Vec Ideal S8192x3584 .bf16 := fun j =>
Xr V c (j 0) (j 1) + Spec.scaledDot (Hc V c (j 0)) (W V c (j 1)) (Hs V c (j 0)) (Ws V c (j 1))

theorem flushed5 (c : Dev nD) (t : Fin cfg3.N) :
    (dat3 V c).flushed 5 t = ((cfg3.win 5).blk t).view.read (Elt Ideal) (res5 V c) := by
  have h := (idx t).2.2.2.2.2
  funext j
  obtain ⟨r, n, rfl⟩ : ∃ (r : Fin 1024) (n : Fin 512), j = ix2 r n := ⟨j 0, j 1, eq_ix2 j⟩
  have e : ((cfg3.win 5).blk t).view.emb (ix2 r n) = ix2 (row t r) (col t n) := by
    funext a; apply Fin.ext
    match a with
    | ⟨0, _⟩ => show win3_5.index t 0 * 1024 + 1 * r.val = t.val / 7 * 1024 + r.val; omega
    | ⟨1, _⟩ => show win3_5.index t 1 * 512 + 1 * n.val = t.val % 7 * 512 + n.val; omega
  have er : ((cfg3.win 5).blk t).view.read (Elt Ideal) (res5 V c) (ix2 r n) = res5 V c (ix2 (row t r) (col t n)) :=
    congrArg (res5 V c) e
  rw [er]
  show (dat3 V c).after 5 t (ix2 r n) = _
  rw [after3_5, tile_apply, blk4, blk2, blk3]
  simp only [blk0, blk1]
  rfl

theorem covered5 (i : S8192x3584.Idx) : ∃ t : Fin cfg3.N, (cfg3.win 5).flush t = true ∧ i ∈ ((cfg3.win 5).blk t).view.set := by
  have h0 : (i 0 : Nat) < 8192 := (i 0).isLt
  have h1 : (i 1 : Nat) < 3584 := (i 1).isLt
  have hN : cfg3.N = 56 := N_3
  refine ⟨⟨(i 0 : Nat) / 1024 * 7 + (i 1 : Nat) / 512, by omega⟩, flush3_5 _, ?_⟩
  generalize ht : (⟨(i 0 : Nat) / 1024 * 7 + (i 1 : Nat) / 512, _⟩ : Fin cfg3.N) = t
  have hv : t.val = (i 0 : Nat) / 1024 * 7 + (i 1 : Nat) / 512 := by rw [← ht]
  have h := (idx t).2.2.2.2.2
  show i ∈ ((View.whole main_v7).slice (win3_5.rect t)).set
  rw [View.set_slice_whole, Rect.mem_set_unit]
  intro a
  match a with
  | ⟨0, _⟩ => show win3_5.index t 0 * 1024 ≤ (i 0 : Nat) ∧ (i 0 : Nat) < win3_5.index t 0 * 1024 + 1024; omega
  | ⟨1, _⟩ => show win3_5.index t 1 * 512 ≤ (i 1 : Nat) ∧ (i 1 : Nat) < win3_5.index t 1 * 512 + 512; omega

/-- The array after the run. -/
theorem final5 (c : Dev nD) : (dat3 V c).arrAt 5 cfg3.N = res5 V c :=
  (dat3 V c).arrAt_eq_of_cover 5 (res5 V c) (fun t _ => flushed5 V c t) covered5

end Cert.KernelIdeal.DownVal

end
-- ==== Proof.Whole.lean ====
/- What the whole program computes over the extended reals: each result array, element by element, is the function of the
   arguments that `Spec` names (`q_apply` … `hs_apply`). The four calls are taken in turn: what a call finds in its arrays
   is what the calls before it left there. -/
module

public import proofs.«01_k».proof.Proof.NormVal
public import proofs.«01_k».proof.Proof.QkvVal
public import proofs.«01_k».proof.Proof.FfArr
public import proofs.«01_k».proof.Proof.DownVal
public import proofs.«01_k».proof.Proof.Run
public import Idealize.ShloMosaic.Lib.StableHlo.ReadAt

@[expose] public section

set_option maxRecDepth 16384

noncomputable section

namespace Cert.KernelIdeal.Whole

open Cert.KernelIdeal Cert.KernelIdeal.Gen Cert.KernelIdeal.Run Idealize.ShloMosaic Idealize.ShloMosaic.TcCoe Idealize.SL.Sem

variable (m : (ℓ : Loc nD τ sig) → Buf (Elt Ideal) ℓ) (ρ : Dev nD → PrngReg) (c : Dev nD)

/-! ## The arguments as functions of their coordinates -/

abbrev x (r : Fin 8192) (k : Fin 3584) : EReal := m ((c : Thread nD τ).loc main_arg0) (ix3 0 r k)
abbrev g (k : Fin 3584) : EReal := m ((c : Thread nD τ).loc main_arg1) (ix1 k)
abbrev w (n : Fin 10624) (k : Fin 3584) : EReal := m ((c : Thread nD τ).loc main_arg2) (ix2 n k)
abbrev ws (n : Fin 10624) : EReal := m ((c : Thread nD τ).loc main_arg3) (ix1 n)
abbrev wd (n : Fin 3584) (k : Fin 4736) : EReal := m ((c : Thread nD τ).loc main_arg4) (ix2 n k)
abbrev wds (n : Fin 3584) : EReal := m ((c : Thread nD τ).loc main_arg5) (ix1 n)

/-! ## The normalising call -/

theorem v0_apply (r : Fin 8192) (k : Fin 3584) : V1 m ρ c main_v0 (ix2 r k) = x m c r k := by
  show StableHlo.after hostOps0 (W0 m ρ c) (Proc.devRef .tc main_v0) (ix2 r k) = _
  after_reads_at
theorem v1_apply (k : Fin 3584) : V1 m ρ c main_v1 (ix2 0 k) = g m c k := by
  show StableHlo.after hostOps0 (W0 m ρ c) (Proc.devRef .tc main_v1) (ix2 0 k) = _
  after_reads_at

theorem X_eq : NormVal.X (V1 m ρ) c = x m c := funext fun r => funext fun k => v0_apply m ρ c r k
theorem G_eq : NormVal.G (V1 m ρ) c = g m c := funext fun k => v1_apply m ρ c k

/-- It leaves the normed rows' codes, -/
theorem codes2 (r : Fin 8192) (k : Fin 3584) : W2 m ρ c (Proc.devRef .tc main_v2_0) (ix2 r k) = Spec.xc (x m c) (g m c) r k := by
  refine (congrFun ((W2_arr m ρ c 2).trans (NormVal.final2 (V1 m ρ) c)) (ix2 r k)).trans ?_
  show Spec.xc (NormVal.X (V1 m ρ) c) (NormVal.G (V1 m ρ) c) r k = _
  rw [X_eq, G_eq]
/-- their scales as a row, -/
theorem scales2 (i : Fin 1) (r : Fin 8192) : W2 m ρ c (Proc.devRef .tc main_v2_1) (ix2 i r) = Spec.xs (x m c) (g m c) r := by
  refine (congrFun ((W2_arr m ρ c 3).trans (NormVal.final3 (V1 m ρ) c)) (ix2 i r)).trans ?_
  show Spec.xs (NormVal.X (V1 m ρ) c) (NormVal.G (V1 m ρ) c) r = _
  rw [X_eq, G_eq]
/-- and their scales over the lanes. -/
theorem wide2 (r : Fin 8192) (l : Fin 128) : W2 m ρ c (Proc.devRef .tc main_v2_2) (ix2 r l) = Spec.xs (x m c) (g m c) r := by
  refine (congrFun ((W2_arr m ρ c 4).trans (NormVal.final4 (V1 m ρ) c)) (ix2 r l)).trans ?_
  show Spec.xs (NormVal.X (V1 m ρ) c) (NormVal.G (V1 m ρ) c) r = _
  rw [X_eq, G_eq]

/-! ## The heads, keys and values -/

theorem wscale3 (b : Fin 83) (l : Fin 128) : V3 m ρ c main_v3 (ix3 b 0 l) = ws m c ⟨128 * b.val + l.val, by omega⟩ := by
  have h : W2 m ρ c (Proc.devRef .tc main_arg3) (ix1 ⟨b.val * 128 + l.val, by omega⟩) = ws m c ⟨b.val * 128 + l.val, by omega⟩ :=
    congrFun (W2_args m ρ c main_arg3 (by decide)) _
  have e : (⟨b.val * 128 + l.val, by omega⟩ : Fin 10624) = ⟨128 * b.val + l.val, by omega⟩ := Fin.ext (by show b.val * 128 + l.val = 128 * b.val + l.val; omega)
  rw [← e]
  refine Eq.trans ?_ h
  show StableHlo.after hostOps1 (W2 m ρ c) (Proc.devRef .tc main_v3) (ix3 b 0 l) = _
  after_reads_at

theorem codes3 (r : Fin 8192) (k : Fin 3584) : V3 m ρ c main_v2_0 (ix2 r k) = Spec.xc (x m c) (g m c) r k :=
  (congrFun (W3_of m ρ c main_v2_0 (by decide)) _).trans (codes2 m ρ c r k)
theorem wide3 (r : Fin 8192) (l : Fin 128) : V3 m ρ c main_v2_2 (ix2 r l) = Spec.xs (x m c) (g m c) r :=
  (congrFun (W3_of m ρ c main_v2_2 (by decide)) _).trans (wide2 m ρ c r l)
theorem w3 (n : Fin 10624) (k : Fin 3584) : V3 m ρ c main_arg2 (ix2 n k) = w m c n k :=
  congrFun (W3_args m ρ c main_arg2 (by decide)) _

theorem projAt_eq (o : ℕ) (ho : o < 9) (r : Fin 8192) (d : Fin 128) :
    QkvVal.projAt (V3 m ρ) c o ho r d = Spec.proj (x m c) (g m c) (w m c) (ws m c) r ⟨128 * o + d.val, by omega⟩ := by
  unfold QkvVal.projAt Spec.proj
  exact congr (congr (congr (congrArg Spec.scaledDot (funext fun k => codes3 m ρ c r k)) (funext fun k => w3 m ρ c _ k))
    (wide3 m ρ c r d)) (wscale3 m ρ c ⟨o, by omega⟩ d)

theorem q4 (h : Fin 7) (r : Fin 8192) (d : Fin 128) : W4 m ρ c (Proc.devRef .tc main_v4_0) (ix3 h r d)
    = Spec.proj (x m c) (g m c) (w m c) (ws m c) r ⟨128 * h.val + d.val, by omega⟩ :=
  (congrFun ((W4_arr m ρ c 4).trans (QkvVal.final4 (V3 m ρ) c)) (ix3 h r d)).trans (projAt_eq m ρ c h.val (by omega) r d)
theorem k4 (r : Fin 8192) (d : Fin 128) : W4 m ρ c (Proc.devRef .tc main_v4_1) (ix2 r d)
    = Spec.proj (x m c) (g m c) (w m c) (ws m c) r ⟨896 + d.val, by omega⟩ :=
  (congrFun ((W4_arr m ρ c 5).trans (QkvVal.final5 (V3 m ρ) c)) (ix2 r d)).trans (projAt_eq m ρ c 7 (by omega) r d)
theorem v4 (r : Fin 8192) (d : Fin 128) : W4 m ρ c (Proc.devRef .tc main_v4_2) (ix2 r d)
    = Spec.proj (x m c) (g m c) (w m c) (ws m c) r ⟨1024 + d.val, by omega⟩ :=
  (congrFun ((W4_arr m ρ c 6).trans (QkvVal.final6 (V3 m ρ) c)) (ix2 r d)).trans (projAt_eq m ρ c 8 (by omega) r d)

/-! ## The hidden rows -/

theorem codes4 (r : Fin 8192) (k : Fin 3584) : V4 m ρ c main_v2_0 (ix2 r k) = Spec.xc (x m c) (g m c) r k :=
  (congrFun (W4_of m ρ c main_v2_0 (by decide)) _).trans (codes3 m ρ c r k)
theorem wide4 (r : Fin 8192) (l : Fin 128) : V4 m ρ c main_v2_2 (ix2 r l) = Spec.xs (x m c) (g m c) r :=
  (congrFun (W4_of m ρ c main_v2_2 (by decide)) _).trans (wide3 m ρ c r l)
theorem wscale4 (b : Fin 83) (l : Fin 128) : V4 m ρ c main_v3 (ix3 b 0 l) = ws m c ⟨128 * b.val + l.val, by omega⟩ :=
  (congrFun (W4_of m ρ c main_v3 (by decide)) _).trans (wscale3 m ρ c b l)
theorem w4 (n : Fin 10624) (k : Fin 3584) : V4 m ρ c main_arg2 (ix2 n k) = w m c n k :=
  congrFun (W4_args m ρ c main_arg2 (by decide)) _

theorem part_eq (r : Fin 8192) (o : ℕ) (ho : o < 83) (l : Fin 128) :
    FfVal.part (V4 m ρ) c r o ho l = Spec.proj (x m c) (g m c) (w m c) (ws m c) r ⟨128 * o + l.val, by omega⟩ := by
  unfold FfVal.part Spec.proj
  exact congr (congr (congr (congrArg Spec.scaledDot (funext fun k => codes4 m ρ c r k)) (funext fun k => w4 m ρ c _ k))
    (wide4 m ρ c r l)) (wscale4 m ρ c ⟨o, ho⟩ l)

/-- The gate's column `k` is row `1152 + k` of the first weights, and the upper value's is row `5888 + k`: a block holds
    128 columns, and the blocks start at 9 and at 46. -/
theorem hidCol_eq (r : Fin 8192) (k : Fin 4736) :
    FfVal.hidCol (V4 m ρ) c r k = Spec.hid (x m c) (g m c) (w m c) (ws m c) r k := by
  unfold FfVal.hidCol FfVal.hidAt Spec.hid
  rw [part_eq, part_eq]
  exact congr (congrArg Spec.gated (congrArg _ (Fin.ext (by show 128 * (9 + k.val / 128) + k.val % 128 = 1152 + k.val; omega))))
    (congrArg _ (Fin.ext (by show 128 * (46 + k.val / 128) + k.val % 128 = 5888 + k.val; omega)))
theorem hidRow_eq (r : Fin 8192) : FfVal.hidCol (V4 m ρ) c r = Spec.hid (x m c) (g m c) (w m c) (ws m c) r :=
  funext fun k => hidCol_eq m ρ c r k

theorem codes5 (r : Fin 8192) (k : Fin 4736) :
    W5 m ρ c (Proc.devRef .tc main_v5_0) (ix2 r k) = Spec.hc (x m c) (g m c) (w m c) (ws m c) r k := by
  refine (congrFun ((W5_arr m ρ c 6).trans (FfVal.final6 (V4 m ρ) c)) (ix2 r k)).trans ?_
  show Spec.codeOf (FfVal.hidCol (V4 m ρ) c r k) (Spec.rowScale (FfVal.hidCol (V4 m ρ) c r)) = _
  rw [hidRow_eq]
  rfl
theorem scales5 (i : Fin 1) (r : Fin 8192) :
    W5 m ρ c (Proc.devRef .tc main_v5_1) (ix2 i r) = Spec.hs (x m c) (g m c) (w m c) (ws m c) r := by
  refine (congrFun ((W5_arr m ρ c 7).trans (FfVal.final7 (V4 m ρ) c)) (ix2 i r)).trans ?_
  show Spec.rowScale (FfVal.hidCol (V4 m ρ) c r) = _
  rw [hidRow_eq]
  rfl
theorem wide5 (r : Fin 8192) (l : Fin 128) :
    W5 m ρ c (Proc.devRef .tc main_v5_2) (ix2 r l) = Spec.hs (x m c) (g m c) (w m c) (ws m c) r := by
  refine (congrFun ((W5_arr m ρ c 8).trans (FfVal.final8 (V4 m ρ) c)) (ix2 r l)).trans ?_
  show Spec.rowScale (FfVal.hidCol (V4 m ρ) c r) = _
  rw [hidRow_eq]
  rfl

/-! ## The output -/

theorem codes6 (r : Fin 8192) (k : Fin 4736) : V6 m ρ c main_v5_0 (ix2 r k) = Spec.hc (x m c) (g m c) (w m c) (ws m c) r k :=
  (congrFun (W6_of m ρ c main_v5_0 (by decide)) _).trans (codes5 m ρ c r k)
theorem wide6 (r : Fin 8192) (l : Fin 128) : V6 m ρ c main_v5_2 (ix2 r l) = Spec.hs (x m c) (g m c) (w m c) (ws m c) r :=
  (congrFun (W6_of m ρ c main_v5_2 (by decide)) _).trans (wide5 m ρ c r l)
theorem wd6 (n : Fin 3584) (k : Fin 4736) : V6 m ρ c main_arg4 (ix2 n k) = wd m c n k :=
  congrFun (W6_args m ρ c main_arg4 (by decide)) _
theorem wds6 (n : Fin 3584) : V6 m ρ c main_v6 (ix2 0 n) = wds m c n := by
  refine Eq.trans ?_ (congrFun (W5_args m ρ c main_arg5 (by decide)) (ix1 n))
  show StableHlo.after hostOps3 (W5 m ρ c) (Proc.devRef .tc main_v6) (ix2 0 n) = _
  after_reads_at
theorem v06 (r : Fin 8192) (k : Fin 3584) : V6 m ρ c main_v0 (ix2 r k) = x m c r k :=
  (congrFun ((W6_of m ρ c main_v0 (by decide)).trans ((W5_of m ρ c main_v0 (by decide)).trans ((W4_of m ρ c main_v0 (by decide)).trans
    ((W3_of m ρ c main_v0 (by decide)).trans (W2_of m ρ c main_v0 (by decide)))))) _).trans (v0_apply m ρ c r k)

theorem scaledDot_congr {n : ℕ} {a a' b b' : Fin n → EReal} {s s' t t' : EReal} (ha : a = a') (hb : b = b') (hs : s = s') (ht : t = t') :
    Spec.scaledDot a b s t = Spec.scaledDot a' b' s' t' := by rw [ha, hb, hs, ht]

/-- Result 4: the rows plus the second projection of the hidden rows. -/
theorem y_apply (r : Fin 8192) (n : Fin 3584) : W7 m ρ c (Proc.devRef .tc main_v7) (ix2 r n)
    = Spec.out (x m c) (g m c) (w m c) (ws m c) (wd m c) (wds m c) r n := by
  refine (congrFun ((W7_arr m ρ c 5).trans (DownVal.final5 (V6 m ρ) c)) (ix2 r n)).trans ?_
  exact congr (congrArg (fun a b : EReal => a + b) (v06 m ρ c r n)) (scaledDot_congr (funext fun k => codes6 m ρ c r k)
    (funext fun k => wd6 m ρ c n k) (wide6 m ρ c r 0) (wds6 m ρ c n))

/-! ## The other results, carried to the end -/

/-- What the last two calls do not write is at the end what it was after the second call … -/
theorem from4 (r : Ref sig .tc) (h5 : ∀ w : Fin cfg2.W, Pipeline.arrRef spec2 w = r → (cfg2.win w).isOut = false) (h6 : r ∉ Run.hostOps3_W)
    (h7 : ∀ w : Fin cfg3.W, Pipeline.arrRef spec3 w = r → (cfg3.win w).isOut = false) :
    W7 m ρ c (Proc.devRef .tc r) = W4 m ρ c (Proc.devRef .tc r) :=
  (W7_of m ρ c r h7).trans ((W6_of m ρ c r h6).trans (W5_of m ρ c r h5))
/-- … and what the second call and the lines before it do not write is there what it was after the first. -/
theorem from2 (r : Ref sig .tc) (h3 : r ∉ Run.hostOps1_W) (h4 : ∀ w : Fin cfg1.W, Pipeline.arrRef spec1 w = r → (cfg1.win w).isOut = false) :
    W4 m ρ c (Proc.devRef .tc r) = W2 m ρ c (Proc.devRef .tc r) :=
  (W4_of m ρ c r h4).trans (W3_of m ρ c r h3)

/-- Result 1: the heads. -/
theorem q_apply (h : Fin 7) (r : Fin 8192) (d : Fin 128) : W7 m ρ c (Proc.devRef .tc main_v4_0) (ix3 h r d)
    = Spec.proj (x m c) (g m c) (w m c) (ws m c) r ⟨128 * h.val + d.val, by omega⟩ :=
  (congrFun (from4 m ρ c main_v4_0 (by decide) (by decide) (by decide)) _).trans (q4 m ρ c h r d)
/-- Result 2: the keys. -/
theorem k_apply (r : Fin 8192) (d : Fin 128) : W7 m ρ c (Proc.devRef .tc main_v4_1) (ix2 r d)
    = Spec.proj (x m c) (g m c) (w m c) (ws m c) r ⟨896 + d.val, by omega⟩ :=
  (congrFun (from4 m ρ c main_v4_1 (by decide) (by decide) (by decide)) _).trans (k4 m ρ c r d)
/-- Result 3: the values. -/
theorem v_apply (r : Fin 8192) (d : Fin 128) : W7 m ρ c (Proc.devRef .tc main_v4_2) (ix2 r d)
    = Spec.proj (x m c) (g m c) (w m c) (ws m c) r ⟨1024 + d.val, by omega⟩ :=
  (congrFun (from4 m ρ c main_v4_2 (by decide) (by decide) (by decide)) _).trans (v4 m ρ c r d)
/-- Result 5: the normed rows' codes. -/
theorem xc_apply (r : Fin 8192) (k : Fin 3584) : W7 m ρ c (Proc.devRef .tc main_v2_0) (ix2 r k) = Spec.xc (x m c) (g m c) r k :=
  (congrFun ((from4 m ρ c main_v2_0 (by decide) (by decide) (by decide)).trans (from2 m ρ c main_v2_0 (by decide) (by decide))) _).trans
    (codes2 m ρ c r k)
/-- Result 6: their scales. -/
theorem xs_apply (i : Fin 1) (r : Fin 8192) : W7 m ρ c (Proc.devRef .tc main_v2_1) (ix2 i r) = Spec.xs (x m c) (g m c) r :=
  (congrFun ((from4 m ρ c main_v2_1 (by decide) (by decide) (by decide)).trans (from2 m ρ c main_v2_1 (by decide) (by decide))) _).trans
    (scales2 m ρ c i r)
/-- Result 7: the hidden rows' codes. -/
theorem hc_apply (r : Fin 8192) (k : Fin 4736) :
    W7 m ρ c (Proc.devRef .tc main_v5_0) (ix2 r k) = Spec.hc (x m c) (g m c) (w m c) (ws m c) r k :=
  (congrFun ((W7_of m ρ c main_v5_0 (by decide)).trans (W6_of m ρ c main_v5_0 (by decide))) _).trans (codes5 m ρ c r k)
/-- Result 8: their scales. -/
theorem hs_apply (i : Fin 1) (r : Fin 8192) :
    W7 m ρ c (Proc.devRef .tc main_v5_1) (ix2 i r) = Spec.hs (x m c) (g m c) (w m c) (ws m c) r :=
  (congrFun ((W7_of m ρ c main_v5_1 (by decide)).trans (W6_of m ρ c main_v5_1 (by decide))) _).trans (scales5 m ρ c i r)

end Cert.KernelIdeal.Whole

end
-- ==== Proof.Ref.lean ====
/- The reference's values at an index, over the extended reals: each of its eight results is the function of `Spec`. -/
module

public import proofs.«01_k».proof.Proof.Spec
public import proofs.«01_k».proof.Proof.Gen.ReferenceIdeal.Value
public import Idealize.ShloMosaic.Lib.Pointwise

@[expose] public section

set_option maxRecDepth 16384

noncomputable section

namespace Cert.ReferenceIdeal.At

open Cert.ReferenceIdeal Cert.ReferenceIdeal.Gen Idealize.ShloMosaic Idealize.SL.Sem

/-! ## The scale of a column of row maxima -/

/-- The power row at `k`. -/
theorem pow_apply (k : Fin 253) : (k0_pay20 (F := Ideal)) (ix2 0 k) = Spec.power k := by
  have h : (k0_pay20 (F := Ideal)) (ix2 0 k)
      = Ideal.exp2 ((((iota .tc S1x253 32 [1] iota_S1x253_d1_w32 (ix2 0 k)) - 125#32).toInt : ℝ) : EReal) := rfl
  have e : iota .tc S1x253 32 [1] iota_S1x253_d1_w32 (ix2 0 k) = BitVec.ofNat 32 k.val := by
    show BitVec.ofNat 32 (0 * 253 + k.val) = _
    rw [Nat.zero_mul, Nat.zero_add]
  rw [h, e]
  rfl

theorem scale_row (P : FVec Ideal S1x253 .f32) (X : FVec Ideal S8192x1 .f32) (r : Fin 8192) :
    k0_pay22 (F := Ideal) X P (cmpf .ogt (broadcastTo S8192x253 P broadcasts_S1x253_S8192x253) (broadcastTo S8192x253 X broadcasts_S8192x1_S8192x253)) (ix2 r 0)
      = Scalar.select (IntOp.andi (BitVec.ofBool (decide (Ideal.ofBits FTy.f32 8388608#32 ≤ X (ix2 r 0)))) (BitVec.ofBool (decide (X (ix2 r 0) < Ideal.ofBits FTy.f32 2130706432#32))))
        (Finset.univ.fold min (Ideal.ofBits FTy.f32 2139095040#32) (fun k : Fin 253 => if X (ix2 r 0) < P (ix2 0 k) then P (ix2 0 k) else Ideal.ofBits FTy.f32 2139095040#32)) 1 := by
  pointwise [k0_pay22]

theorem xn_apply (v0 : Vec Ideal S1x8192x3584 .bf16) (g : Vec Ideal S3584 .bf16) (r : Fin 8192) (k : Fin 3584) :
    k0_pay3 (F := Ideal) v0 g (ix2 r k) = Spec.normed (fun j => v0 (ix3 0 r j)) (fun j => g (ix1 j)) k := by
  unfold Spec.normed
  pointwise [k0_pay3, k0_pay2]

/-- The scale the reference's operations give for a scaled row maximum `X`. -/
theorem scale_apply (X : FVec Ideal S8192x1 .f32) (r : Fin 8192) (a : EReal) (hX : X (ix2 r 0) = Spec.over448 a) :
    k0_pay22 (F := Ideal) X k0_pay20 (cmpf .ogt (broadcastTo S8192x253 k0_pay20 broadcasts_S1x253_S8192x253) (broadcastTo S8192x253 X broadcasts_S8192x1_S8192x253)) (ix2 r 0)
      = Spec.scaleOf a := by
  rw [scale_row, hX]
  unfold Spec.scaleOf
  simp only [pow_apply]
  have key (p q : Prop) [Decidable p] [Decidable q] :
      (IntOp.andi (BitVec.ofBool (decide p)) (BitVec.ofBool (decide q)) = 1#1) ↔ (p ∧ q) := by
    by_cases hp : p <;> by_cases hq : q <;> simp [hp, hq, IntOp.andi]
  exact if_congr (key _ _) rfl rfl

/-! ## The codes of a row -/

theorem codes_row (a : FVec Ideal S8192x3584 .f32) (s : FVec Ideal S8192x1 .f32) (o : Ideal .f32) (r : Fin 8192) (k : Fin 3584) :
    k0_pay5 (F := Ideal) a s o (ix2 r k) = min (Ideal.ofBits FTy.f32 1138753536#32) (max (Ideal.ofBits FTy.f32 3286237184#32)
      (a (ix2 r k) * (if Ideal.ofBits FTy.f32 8388608#32 ≤ Ideal.div o (s (ix2 r 0)) then Ideal.div o (s (ix2 r 0)) else 0))) := by
  pointwise [k0_pay5]

theorem hcodes_row (a : FVec Ideal S8192x4736 .f32) (X : FVec Ideal S8192x1 .f32) (P : FVec Ideal S1x253 .f32) (C : IVec S8192x253 1) (r : Fin 8192) (k : Fin 4736) :
    k0_pay23 (F := Ideal) a X P C (ix2 r k) = min (Ideal.ofBits FTy.f32 1138753536#32) (max (Ideal.ofBits FTy.f32 3286237184#32)
      (a (ix2 r k) * (if Ideal.ofBits FTy.f32 8388608#32 ≤ Ideal.div 1 (k0_pay22 X P C (ix2 r 0)) then Ideal.div 1 (k0_pay22 X P C (ix2 r 0)) else 0))) := by
  pointwise [k0_pay23]

theorem proj_row (a : FVec Ideal S8192x3584 .f32) (s : FVec Ideal S8192x1 .f32) (o : Ideal .f32) (w : Vec Ideal S10624x3584 .fp8e4m3) (ws : Vec Ideal S10624 .f32)
    (r : Fin 8192) (n : Fin 10624) :
    k0_pay6 (F := Ideal) a s o w ws (ix2 r n) = (∑ k, k0_pay5 (F := Ideal) a s o (ix2 r k) * w (ix2 n k)) * s (ix2 r 0) * ws (ix1 n) := by
  pointwise [k0_pay6]

theorem hid_row (p : FVec Ideal S8192x10624 .f32) (r : Fin 8192) (j : Fin 4736) :
    k0_pay18 (F := Ideal) p (ix2 r j) = p (ix2 r ⟨1152 + j.val, by omega⟩) * Ideal.logistic (p (ix2 r ⟨1152 + j.val, by omega⟩)) * p (ix2 r ⟨5888 + j.val, by omega⟩) := by
  pointwise [k0_pay18]

theorem scaled_apply (a : FVec Ideal S8192 .f32) (r : Fin 8192) :
    mulf (shapeCast S8192x1 a shapeCasts_S8192_S8192x1) (broadcast S8192x1 (Scalar.ofBits (F := Ideal) .f32 0x3B124925#32)) (ix2 r 0) = Spec.over448 (a (ix1 r)) := by
  unfold Spec.over448
  pointwise

def hmaxRed (a : FVec Ideal S8192x4736 .f32) : FVec Ideal S8192 .f32 :=
  multiReduction .maximumf [1] S8192 (absf a) 0xFF800000#32 reduces_S8192x4736_S8192 (.inl rfl) rfl
theorem hmaxRed_apply (a : FVec Ideal S8192x4736 .f32) (r : Fin 8192) : hmaxRed a (ix1 r) = Spec.amax fun k => a (ix2 r k) := by
  unfold hmaxRed
  simp only [pointwise]
  rfl

theorem hmax_row (p : FVec Ideal S8192x10624 .f32) (r : Fin 8192) :
    k0_pay19 (F := Ideal) p (ix2 r 0) = Spec.over448 (Spec.amax fun j => k0_pay18 (F := Ideal) p (ix2 r j)) := by
  exact (scaled_apply (hmaxRed (k0_pay18 p)) r).trans (congrArg Spec.over448 (hmaxRed_apply _ r))

/-- The normed rows' scaled maximum, named as in the second quantisation. -/
def xmax (v0 : Vec Ideal S1x8192x3584 .bf16) (g : Vec Ideal S3584 .bf16) : FVec Ideal S8192x1 .f32 :=
  mulf (shapeCast S8192x1 (multiReduction .maximumf [1] S8192 (absf (k0_pay3 v0 g)) 0xFF800000#32 reduces_S8192x3584_S8192 (.inl rfl) rfl) shapeCasts_S8192_S8192x1)
    (broadcast S8192x1 (Scalar.ofBits .f32 0x3B124925#32))

def xmaxRed (a : FVec Ideal S8192x3584 .f32) : FVec Ideal S8192 .f32 :=
  multiReduction .maximumf [1] S8192 (absf a) 0xFF800000#32 reduces_S8192x3584_S8192 (.inl rfl) rfl
theorem xmaxRed_apply (a : FVec Ideal S8192x3584 .f32) (r : Fin 8192) : xmaxRed a (ix1 r) = Spec.amax fun k => a (ix2 r k) := by
  unfold xmaxRed
  simp only [pointwise]
  rfl

theorem xmax_row (v0 : Vec Ideal S1x8192x3584 .bf16) (g : Vec Ideal S3584 .bf16) (r : Fin 8192) :
    xmax v0 g (ix2 r 0) = Spec.over448 (Spec.amax fun k => k0_pay3 (F := Ideal) v0 g (ix2 r k)) := by
  exact (scaled_apply (xmaxRed (k0_pay3 v0 g)) r).trans (congrArg Spec.over448 (xmaxRed_apply _ r))

theorem xscale_eq (v0 : Vec Ideal S1x8192x3584 .bf16) (g : Vec Ideal S3584 .bf16) :
    k0_pay4 (F := Ideal) v0 g = k0_pay22 (F := Ideal) (xmax v0 g) k0_pay20
      (cmpf .ogt (broadcastTo S8192x253 k0_pay20 broadcasts_S1x253_S8192x253) (broadcastTo S8192x253 (xmax v0 g) broadcasts_S8192x1_S8192x253)) := rfl

theorem out_row (x : FVec Ideal S8192x3584 .f32) (a : FVec Ideal S8192x4736 .f32) (X : FVec Ideal S8192x1 .f32) (P : FVec Ideal S1x253 .f32) (C : IVec S8192x253 1)
    (w : Vec Ideal S3584x4736 .fp8e4m3) (ws : Vec Ideal S3584 .f32) (r : Fin 8192) (n : Fin 3584) :
    k0_pay24 (F := Ideal) x a X P C w ws (ix2 r n)
      = x (ix2 r n) + (∑ k, k0_pay23 (F := Ideal) a X P C (ix2 r k) * w (ix2 n k)) * k0_pay22 (F := Ideal) X P C (ix2 r 0) * ws (ix1 n) := by
  pointwise [k0_pay24]

theorem xf_row (x : Vec Ideal S1x8192x3584 .bf16) (r : Fin 8192) (n : Fin 3584) : k0_pay2 (F := Ideal) x (ix2 r n) = x (ix3 0 r n) := by
  pointwise [k0_pay2]
theorem row_of_col (s : FVec Ideal S8192x1 .f32) (r : Fin 8192) : k0_pay1 (F := Ideal) s (ix2 0 r) = s (ix2 r 0) := by
  pointwise [k0_pay1]
theorem row_of_col' (s : FVec Ideal S8192x1 .f32) (r : Fin 8192) : k0_pay25 (F := Ideal) s (ix2 0 r) = s (ix2 r 0) := by
  pointwise [k0_pay25]
theorem k_row (p : FVec Ideal S8192x10624 .f32) (r : Fin 8192) (d : Fin 128) :
    k0_pay16 (F := Ideal) p (ix2 r d) = p (ix2 r ⟨896 + d.val, by omega⟩) := by
  pointwise [k0_pay16]
theorem v_row (p : FVec Ideal S8192x10624 .f32) (r : Fin 8192) (d : Fin 128) :
    k0_pay17 (F := Ideal) p (ix2 r d) = p (ix2 r ⟨1024 + d.val, by omega⟩) := by
  pointwise [k0_pay17]
theorem q_row (a : FVec Ideal S8192x3584 .f32) (s : FVec Ideal S8192x1 .f32) (o : Ideal .f32) (w : Vec Ideal S10624x3584 .fp8e4m3) (ws : Vec Ideal S10624 .f32)
    (r : Fin 8192) (d : Fin 896) : k0_pay7 (F := Ideal) a s o w ws (ix2 r d) = k0_pay6 (F := Ideal) a s o w ws (ix2 r ⟨d.val, by omega⟩) := by
  pointwise [k0_pay7]

end Cert.ReferenceIdeal.At

end
-- ==== Proof.RefOut.lean ====
/- The reference's eight results at an index: the functions of `Spec` of the argument arrays. -/
module

public import proofs.«01_k».proof.Proof.Ref

@[expose] public section

set_option maxRecDepth 16384

noncomputable section

namespace Cert.ReferenceIdeal.At

open Cert.ReferenceIdeal Cert.ReferenceIdeal.Gen Cert.ReferenceIdeal.Value Idealize.ShloMosaic Idealize.SL.Sem

section Results

variable (a0 : Vec Ideal S1x8192x3584 .bf16) (a1 : Vec Ideal S3584 .bf16) (a2 : Vec Ideal S10624x3584 .fp8e4m3) (a3 : Vec Ideal S10624 .f32)
  (a4 : Vec Ideal S3584x4736 .fp8e4m3) (a5 : Vec Ideal S3584 .f32)

/-- The arguments as functions of their coordinates. -/
abbrev xR (r : Fin 8192) (k : Fin 3584) : EReal := a0 (ix3 0 r k)
abbrev gR (k : Fin 3584) : EReal := a1 (ix1 k)
abbrev wR (n : Fin 10624) (k : Fin 3584) : EReal := a2 (ix2 n k)
abbrev sR (n : Fin 10624) : EReal := a3 (ix1 n)
abbrev dR (n : Fin 3584) (k : Fin 4736) : EReal := a4 (ix2 n k)
abbrev tR (n : Fin 3584) : EReal := a5 (ix1 n)

theorem one_bits : (Scalar.ofBits (F := Ideal) .f32 0x3F800000#32 : EReal) = 1 :=
  (congrArg (Ideal.ofBits FTy.f32) (by decide : (0x3F800000#32 : BitVec 32) = 127#32 <<< 23)).trans Spec.ofBits_one

theorem p26 (r : Fin 8192) (k : Fin 3584) : k0_pay26 (F := Ideal) a0 a1 a2 a3 a4 a5 (ix2 r k) = Spec.normed (xR a0 r) (gR a1) k := by
  unfold k0_pay26
  rw [View.ld_unit_zero (S := S1x8192x3584) hz0 _ a0, View.ld_unit_zero (S := S3584) hz1 _ a1]
  exact xn_apply a0 a1 r k

theorem p27 (r : Fin 8192) : k0_pay27 (F := Ideal) a0 a1 a2 a3 a4 a5 (ix2 r 0) = Spec.xs (xR a0) (gR a1) r := by
  unfold k0_pay27
  rw [View.ld_unit_zero (S := S1x8192x3584) hz0 _ a0, View.ld_unit_zero (S := S3584) hz1 _ a1, xscale_eq]
  refine (scale_apply (xmax a0 a1) r _ (xmax_row a0 a1 r)).trans ?_
  unfold Spec.xs Spec.rowScale
  congr 2
  funext k
  exact xn_apply a0 a1 r k

theorem pcodes (r : Fin 8192) (k : Fin 3584) :
    k0_pay5 (F := Ideal) (k0_pay26 a0 a1 a2 a3 a4 a5) (k0_pay27 a0 a1 a2 a3 a4 a5) (Scalar.ofBits .f32 0x3F800000#32) (ix2 r k) = Spec.xc (xR a0) (gR a1) r k := by
  rw [codes_row, p26, p27, one_bits]
  rfl

theorem p28 (r : Fin 8192) (n : Fin 10624) : k0_pay28 (F := Ideal) a0 a1 a2 a3 a4 a5 (ix2 r n) = Spec.proj (xR a0) (gR a1) (wR a2) (sR a3) r n := by
  unfold k0_pay28
  rw [View.ld_unit_zero (S := S10624x3584) hz2 _ a2, View.ld_unit_zero (S := S10624) hz3 _ a3, proj_row, p27]
  simp only [pcodes]
  rfl

theorem p29 (r : Fin 8192) (d : Fin 896) :
    k0_pay29 (F := Ideal) a0 a1 a2 a3 a4 a5 (ix2 r d) = Spec.proj (xR a0) (gR a1) (wR a2) (sR a3) r ⟨d.val, by omega⟩ := by
  unfold k0_pay29
  rw [q_row]
  exact p28 a0 a1 a2 a3 a4 a5 r ⟨d.val, by omega⟩

theorem p30 (r : Fin 8192) (j : Fin 4736) : k0_pay30 (F := Ideal) a0 a1 a2 a3 a4 a5 (ix2 r j) = Spec.hid (xR a0) (gR a1) (wR a2) (sR a3) r j := by
  unfold k0_pay30
  rw [hid_row, p28, p28]
  rfl

theorem hscale (r : Fin 8192) :
    k0_pay22 (F := Ideal) (k0_pay31 a0 a1 a2 a3 a4 a5) (k0_pay32 a0 a1 a2 a3 a4 a5) (k0_pay33 a0 a1 a2 a3 a4 a5) (ix2 r 0)
      = Spec.hs (xR a0) (gR a1) (wR a2) (sR a3) r := by
  refine (scale_apply (k0_pay31 a0 a1 a2 a3 a4 a5) r _ (hmax_row (k0_pay28 a0 a1 a2 a3 a4 a5) r)).trans ?_
  unfold Spec.hs Spec.rowScale
  congr 2
  funext j
  exact p30 a0 a1 a2 a3 a4 a5 r j

theorem hcodes (r : Fin 8192) (j : Fin 4736) :
    k0_pay23 (F := Ideal) (k0_pay30 a0 a1 a2 a3 a4 a5) (k0_pay31 a0 a1 a2 a3 a4 a5) (k0_pay32 a0 a1 a2 a3 a4 a5) (k0_pay33 a0 a1 a2 a3 a4 a5) (ix2 r j)
      = Spec.hc (xR a0) (gR a1) (wR a2) (sR a3) r j := by
  rw [hcodes_row, hscale, p30]
  rfl

/-! ## The results -/

/-- Result 2, the keys. -/
theorem g7 (r : Fin 8192) (d : Fin 128) : G7 (F := Ideal) a0 a1 a2 a3 a4 a5 (ix2 r d) = Spec.proj (xR a0) (gR a1) (wR a2) (sR a3) r ⟨896 + d.val, by omega⟩ :=
  (k_row _ r d).trans (p28 a0 a1 a2 a3 a4 a5 r _)
/-- Result 3, the values. -/
theorem g8 (r : Fin 8192) (d : Fin 128) : G8 (F := Ideal) a0 a1 a2 a3 a4 a5 (ix2 r d) = Spec.proj (xR a0) (gR a1) (wR a2) (sR a3) r ⟨1024 + d.val, by omega⟩ :=
  (v_row _ r d).trans (p28 a0 a1 a2 a3 a4 a5 r _)
/-- Result 4, the block's output. -/
theorem g9 (r : Fin 8192) (n : Fin 3584) :
    G9 (F := Ideal) a0 a1 a2 a3 a4 a5 (ix2 r n) = Spec.out (xR a0) (gR a1) (wR a2) (sR a3) (dR a4) (tR a5) r n := by
  show k0_pay24 (F := Ideal) _ _ _ _ _ _ _ (ix2 r n) = _
  rw [out_row, xf_row, hscale]
  simp only [hcodes]
  rfl
/-- Results 5 and 6, the normed rows' codes and scales. -/
theorem g10 (r : Fin 8192) (k : Fin 3584) : G10 (F := Ideal) a0 a1 a2 a3 a4 a5 (ix2 r k) = Spec.xc (xR a0) (gR a1) r k := pcodes a0 a1 a2 a3 a4 a5 r k
theorem g11 (r : Fin 8192) : G11 (F := Ideal) a0 a1 a2 a3 a4 a5 (ix2 0 r) = Spec.xs (xR a0) (gR a1) r :=
  (row_of_col' _ r).trans (p27 a0 a1 a2 a3 a4 a5 r)
/-- Results 7 and 8, the hidden rows' codes and scales. -/
theorem g12 (r : Fin 8192) (j : Fin 4736) : G12 (F := Ideal) a0 a1 a2 a3 a4 a5 (ix2 r j) = Spec.hc (xR a0) (gR a1) (wR a2) (sR a3) r j := hcodes a0 a1 a2 a3 a4 a5 r j
theorem g13 (r : Fin 8192) : G13 (F := Ideal) a0 a1 a2 a3 a4 a5 (ix2 0 r) = Spec.hs (xR a0) (gR a1) (wR a2) (sR a3) r :=
  (row_of_col _ r).trans (hscale a0 a1 a2 a3 a4 a5 r)

end Results

/-! ## The query heads -/

theorem head0 (a : FVec Ideal S8192x3584 .f32) (s : FVec Ideal S8192x1 .f32) (o : Ideal .f32) (w : Vec Ideal S10624x3584 .fp8e4m3) (ws : Vec Ideal S10624 .f32) (r : Fin 8192) (d : Fin 128) :
    k0_pay8 (F := Ideal) a s o w ws (ix3 0 r d) = k0_pay7 (F := Ideal) a s o w ws (ix2 r ⟨0 + d.val, by omega⟩) := by
  pointwise [k0_pay8]
theorem head1 (a : FVec Ideal S8192x3584 .f32) (s : FVec Ideal S8192x1 .f32) (o : Ideal .f32) (w : Vec Ideal S10624x3584 .fp8e4m3) (ws : Vec Ideal S10624 .f32) (r : Fin 8192) (d : Fin 128) :
    k0_pay9 (F := Ideal) a s o w ws (ix3 0 r d) = k0_pay7 (F := Ideal) a s o w ws (ix2 r ⟨128 + d.val, by omega⟩) := by
  pointwise [k0_pay9]
theorem head2 (a : FVec Ideal S8192x3584 .f32) (s : FVec Ideal S8192x1 .f32) (o : Ideal .f32) (w : Vec Ideal S10624x3584 .fp8e4m3) (ws : Vec Ideal S10624 .f32) (r : Fin 8192) (d : Fin 128) :
    k0_pay10 (F := Ideal) a s o w ws (ix3 0 r d) = k0_pay7 (F := Ideal) a s o w ws (ix2 r ⟨256 + d.val, by omega⟩) := by
  pointwise [k0_pay10]
theorem head3 (a : FVec Ideal S8192x3584 .f32) (s : FVec Ideal S8192x1 .f32) (o : Ideal .f32) (w : Vec Ideal S10624x3584 .fp8e4m3) (ws : Vec Ideal S10624 .f32) (r : Fin 8192) (d : Fin 128) :
    k0_pay12 (F := Ideal) (k0_pay11 a s o w ws) (ix3 0 r d) = k0_pay7 (F := Ideal) a s o w ws (ix2 r ⟨384 + d.val, by omega⟩) := by
  pointwise [k0_pay12, k0_pay11]
theorem head4 (z : FVec Ideal S8192x896 .bf16) (r : Fin 8192) (d : Fin 128) :
    k0_pay13 (F := Ideal) z (ix3 0 r d) = z (ix2 r ⟨512 + d.val, by omega⟩) := by
  pointwise [k0_pay13]
theorem head5 (z : FVec Ideal S8192x896 .bf16) (r : Fin 8192) (d : Fin 128) :
    k0_pay14 (F := Ideal) z (ix3 0 r d) = z (ix2 r ⟨640 + d.val, by omega⟩) := by
  pointwise [k0_pay14]
theorem head6 (z : FVec Ideal S8192x896 .bf16) (r : Fin 8192) (d : Fin 128) :
    k0_pay15 (F := Ideal) z (ix3 0 r d) = z (ix2 r ⟨768 + d.val, by omega⟩) := by
  pointwise [k0_pay15]

/-- The heads laid out one after the other. -/
def heads (z : FVec Ideal S8192x896 .bf16) : Vec Ideal S7x8192x128 .bf16 := fun i =>
  z (ix2 (i 1) ⟨128 * (i 0 : Nat) + (i 2 : Nat), by
    have h0 : (i 0 : Nat) < 7 := (i 0).isLt
    have h2 : (i 2 : Nat) < 128 := (i 2).isLt
    omega⟩)

theorem emb0 (r : Fin 8192) (d : Fin 128) (z : FVec Ideal S8192x896 .bf16) : heads z (r0_4.emb (ix3 0 r d)) = z (ix2 r ⟨0 + d.val, by omega⟩) := by
  unfold heads
  congr 1; funext a; apply Fin.ext
  match a with
  | ⟨0, _⟩ => show 0 + 1 * r.val = r.val; omega
  | ⟨1, _⟩ => show 128 * (0 + 1 * 0) + (0 + 1 * d.val) = 0 + d.val; omega
theorem emb1 (r : Fin 8192) (d : Fin 128) (z : FVec Ideal S8192x896 .bf16) : heads z (r0_5.emb (ix3 0 r d)) = z (ix2 r ⟨128 + d.val, by omega⟩) := by
  unfold heads
  congr 1; funext a; apply Fin.ext
  match a with
  | ⟨0, _⟩ => show 0 + 1 * r.val = r.val; omega
  | ⟨1, _⟩ => show 128 * (1 + 1 * 0) + (0 + 1 * d.val) = 128 + d.val; omega
theorem emb2 (r : Fin 8192) (d : Fin 128) (z : FVec Ideal S8192x896 .bf16) : heads z (r0_6.emb (ix3 0 r d)) = z (ix2 r ⟨256 + d.val, by omega⟩) := by
  unfold heads
  congr 1; funext a; apply Fin.ext
  match a with
  | ⟨0, _⟩ => show 0 + 1 * r.val = r.val; omega
  | ⟨1, _⟩ => show 128 * (2 + 1 * 0) + (0 + 1 * d.val) = 256 + d.val; omega
theorem emb3 (r : Fin 8192) (d : Fin 128) (z : FVec Ideal S8192x896 .bf16) : heads z (r0_7.emb (ix3 0 r d)) = z (ix2 r ⟨384 + d.val, by omega⟩) := by
  unfold heads
  congr 1; funext a; apply Fin.ext
  match a with
  | ⟨0, _⟩ => show 0 + 1 * r.val = r.val; omega
  | ⟨1, _⟩ => show 128 * (3 + 1 * 0) + (0 + 1 * d.val) = 384 + d.val; omega
theorem emb4 (r : Fin 8192) (d : Fin 128) (z : FVec Ideal S8192x896 .bf16) : heads z (r0_8.emb (ix3 0 r d)) = z (ix2 r ⟨512 + d.val, by omega⟩) := by
  unfold heads
  congr 1; funext a; apply Fin.ext
  match a with
  | ⟨0, _⟩ => show 0 + 1 * r.val = r.val; omega
  | ⟨1, _⟩ => show 128 * (4 + 1 * 0) + (0 + 1 * d.val) = 512 + d.val; omega
theorem emb5 (r : Fin 8192) (d : Fin 128) (z : FVec Ideal S8192x896 .bf16) : heads z (r0_9.emb (ix3 0 r d)) = z (ix2 r ⟨640 + d.val, by omega⟩) := by
  unfold heads
  congr 1; funext a; apply Fin.ext
  match a with
  | ⟨0, _⟩ => show 0 + 1 * r.val = r.val; omega
  | ⟨1, _⟩ => show 128 * (5 + 1 * 0) + (0 + 1 * d.val) = 640 + d.val; omega
theorem emb6 (r : Fin 8192) (d : Fin 128) (z : FVec Ideal S8192x896 .bf16) : heads z (r0_10.emb (ix3 0 r d)) = z (ix2 r ⟨768 + d.val, by omega⟩) := by
  unfold heads
  congr 1; funext a; apply Fin.ext
  match a with
  | ⟨0, _⟩ => show 0 + 1 * r.val = r.val; omega
  | ⟨1, _⟩ => show 128 * (6 + 1 * 0) + (0 + 1 * d.val) = 768 + d.val; omega

theorem idx3 (x : S1x8192x128.Idx) : ∃ (r : Fin 8192) (d : Fin 128), x = ix3 0 r d := by
  refine ⟨x 1, x 2, ?_⟩
  refine (eq_ix3 x).trans ?_
  congr 1
  exact Subsingleton.elim (α := Fin 1) _ _

theorem g6_heads (a0 : Vec Ideal S1x8192x3584 .bf16) (a1 : Vec Ideal S3584 .bf16) (a2 : Vec Ideal S10624x3584 .fp8e4m3) (a3 : Vec Ideal S10624 .f32)
    (a4 : Vec Ideal S3584x4736 .fp8e4m3) (a5 : Vec Ideal S3584 .f32) (y : S7x8192x128.Idx) :
    G6 (F := Ideal) a0 a1 a2 a3 a4 a5 y = heads (k0_pay29 a0 a1 a2 a3 a4 a5) y := by
  have e : k0_pay7 (F := Ideal) (k0_pay26 a0 a1 a2 a3 a4 a5) (k0_pay27 a0 a1 a2 a3 a4 a5) (Scalar.ofBits .f32 0x3F800000#32) a2 a3 = k0_pay29 a0 a1 a2 a3 a4 a5 := by
    unfold k0_pay29
    rw [View.ld_unit_zero (S := S10624x3584) hz2 _ a2, View.ld_unit_zero (S := S10624) hz3 _ a3]
  refine View.canon_apply_of_pieces (heads (k0_pay29 a0 a1 a2 a3 a4 a5)) _ ?_ y (cover0_6 _ _ _ _ _ _ _ y)
  intro p hp x
  simp only [List.mem_cons, List.not_mem_nil, or_false] at hp
  rcases hp with rfl | rfl | rfl | rfl | rfl | rfl | rfl
  · obtain ⟨r, d, rfl⟩ := idx3 x
    exact (head6 (k0_pay29 a0 a1 a2 a3 a4 a5) r d).trans (emb6 r d (k0_pay29 a0 a1 a2 a3 a4 a5)).symm
  · obtain ⟨r, d, rfl⟩ := idx3 x
    exact (head5 (k0_pay29 a0 a1 a2 a3 a4 a5) r d).trans (emb5 r d (k0_pay29 a0 a1 a2 a3 a4 a5)).symm
  · obtain ⟨r, d, rfl⟩ := idx3 x
    exact (head4 (k0_pay29 a0 a1 a2 a3 a4 a5) r d).trans (emb4 r d (k0_pay29 a0 a1 a2 a3 a4 a5)).symm
  · obtain ⟨r, d, rfl⟩ := idx3 x
    exact ((head3 _ _ _ _ _ r d).trans (congrFun e _)).trans (emb3 r d _).symm
  · obtain ⟨r, d, rfl⟩ := idx3 x
    exact ((head2 _ _ _ _ _ r d).trans (congrFun e _)).trans (emb2 r d _).symm
  · obtain ⟨r, d, rfl⟩ := idx3 x
    exact ((head1 _ _ _ _ _ r d).trans (congrFun e _)).trans (emb1 r d _).symm
  · obtain ⟨r, d, rfl⟩ := idx3 x
    exact ((head0 _ _ _ _ _ r d).trans (congrFun e _)).trans (emb0 r d _).symm

/-- Result 1, the queries. -/
theorem g6 (a0 : Vec Ideal S1x8192x3584 .bf16) (a1 : Vec Ideal S3584 .bf16) (a2 : Vec Ideal S10624x3584 .fp8e4m3) (a3 : Vec Ideal S10624 .f32)
    (a4 : Vec Ideal S3584x4736 .fp8e4m3) (a5 : Vec Ideal S3584 .f32) (h : Fin 7) (r : Fin 8192) (d : Fin 128) :
    G6 (F := Ideal) a0 a1 a2 a3 a4 a5 (ix3 h r d) = Spec.proj (xR a0) (gR a1) (wR a2) (sR a3) r ⟨128 * h.val + d.val, by omega⟩ :=
  (g6_heads a0 a1 a2 a3 a4 a5 _).trans (p29 a0 a1 a2 a3 a4 a5 r ⟨128 * h.val + d.val, by omega⟩)

end Cert.ReferenceIdeal.At

end
-- ==== Proof.Equal.lean ====
/- The kernel's results are the reference's: over the extended reals each array that the kernel's run leaves is the array that
   the reference computes of the same arguments (`eq1` … `eq8`), and so the two programs agree (`algebraic`). -/
module

public import proofs.«01_k».proof.Proof.Whole
public import proofs.«01_k».proof.Proof.RefOut
public import proofs.«01_k».proof.Defs

@[expose] public section

set_option maxRecDepth 16384

noncomputable section

namespace Cert.Equal

open Cert.KernelIdeal Cert.KernelIdeal.Run Cert.KernelIdeal.Whole Idealize.ShloMosaic Idealize.ShloMosaic.TcCoe Idealize.SL.Sem
open Cert.ReferenceIdeal.At (g6 g7 g8 g9 g10 g11 g12 g13)

variable (m : (ℓ : Loc nD τ sig) → Buf (Elt Ideal) ℓ) (ρ : Dev nD → PrngReg) (c : Dev nD)

/-- A function of the six arguments, at the arguments as launched. -/
abbrev ofArgs {β : Type} (G : Vec Ideal S1x8192x3584 .bf16 → Vec Ideal S3584 .bf16 → Vec Ideal S10624x3584 .fp8e4m3 → Vec Ideal S10624 .f32
    → Vec Ideal S3584x4736 .fp8e4m3 → Vec Ideal S3584 .f32 → β) : β :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Result 1, the heads. -/
theorem eq1 : (W7 m ρ c (Proc.devRef .tc main_v4_0) : Vec Ideal S7x8192x128 .bf16) = ofArgs m c (Cert.ReferenceIdeal.Value.G6 (F := Ideal)) := by
  funext j
  rw [eq_ix3 j]
  exact (q_apply m ρ c (j 0) (j 1) (j 2)).trans (g6 _ _ _ _ _ _ (j 0) (j 1) (j 2)).symm
/-- Result 2, the keys. -/
theorem eq2 : (W7 m ρ c (Proc.devRef .tc main_v4_1) : Vec Ideal S8192x128 .bf16) = ofArgs m c (Cert.ReferenceIdeal.Value.G7 (F := Ideal)) := by
  funext j
  rw [eq_ix2 j]
  exact (k_apply m ρ c (j 0) (j 1)).trans (g7 _ _ _ _ _ _ (j 0) (j 1)).symm
/-- Result 3, the values. -/
theorem eq3 : (W7 m ρ c (Proc.devRef .tc main_v4_2) : Vec Ideal S8192x128 .bf16) = ofArgs m c (Cert.ReferenceIdeal.Value.G8 (F := Ideal)) := by
  funext j
  rw [eq_ix2 j]
  exact (v_apply m ρ c (j 0) (j 1)).trans (g8 _ _ _ _ _ _ (j 0) (j 1)).symm
/-- Result 4, the output. -/
theorem eq4 : (W7 m ρ c (Proc.devRef .tc main_v7) : Vec Ideal S8192x3584 .bf16) = ofArgs m c (Cert.ReferenceIdeal.Value.G9 (F := Ideal)) := by
  funext j
  rw [eq_ix2 j]
  exact (y_apply m ρ c (j 0) (j 1)).trans (g9 _ _ _ _ _ _ (j 0) (j 1)).symm
/-- Result 5, the normed rows' codes. -/
theorem eq5 : (W7 m ρ c (Proc.devRef .tc main_v2_0) : Vec Ideal S8192x3584 .fp8e4m3) = ofArgs m c (Cert.ReferenceIdeal.Value.G10 (F := Ideal)) := by
  funext j
  rw [eq_ix2 j]
  exact (xc_apply m ρ c (j 0) (j 1)).trans (g10 _ _ _ _ _ _ (j 0) (j 1)).symm
/-- Result 6, their scales. -/
theorem eq6 : (W7 m ρ c (Proc.devRef .tc main_v2_1) : Vec Ideal S1x8192 .f32) = ofArgs m c (Cert.ReferenceIdeal.Value.G11 (F := Ideal)) := by
  funext j
  rw [eq_ix2 j, Subsingleton.elim (α := Fin 1) (j 0) 0]
  exact (xs_apply m ρ c 0 (j 1)).trans (g11 _ _ _ _ _ _ (j 1)).symm
/-- Result 7, the hidden rows' codes. -/
theorem eq7 : (W7 m ρ c (Proc.devRef .tc main_v5_0) : Vec Ideal S8192x4736 .fp8e4m3) = ofArgs m c (Cert.ReferenceIdeal.Value.G12 (F := Ideal)) := by
  funext j
  rw [eq_ix2 j]
  exact (hc_apply m ρ c (j 0) (j 1)).trans (g12 _ _ _ _ _ _ (j 0) (j 1)).symm
/-- Result 8, their scales. -/
theorem eq8 : (W7 m ρ c (Proc.devRef .tc main_v5_1) : Vec Ideal S1x8192 .f32) = ofArgs m c (Cert.ReferenceIdeal.Value.G13 (F := Ideal)) := by
  funext j
  rw [eq_ix2 j, Subsingleton.elim (α := Fin 1) (j 0) 0]
  exact (hs_apply m ρ c 0 (j 1)).trans (g13 _ _ _ _ _ _ (j 1)).symm

/-- Started on the same arguments, the kernel and the reference leave the same eight results, and their arguments unchanged. -/
theorem algebraic : Cert.algebraic_KernelIdeal_ReferenceIdeal (hKernelIdeal := Cert.KernelIdeal.Gen.facts)
    (hReferenceIdeal := Cert.ReferenceIdeal.Gen.facts) := by
  intro m ρ m' ρ' _ hargs
  refine ⟨fun c => W7 m ρ c (Proc.devRef .tc main_v4_0), fun c => W7 m ρ c (Proc.devRef .tc main_v4_1), fun c => W7 m ρ c (Proc.devRef .tc main_v4_2), fun c => W7 m ρ c (Proc.devRef .tc main_v7), fun c => W7 m ρ c (Proc.devRef .tc main_v2_0), fun c => W7 m ρ c (Proc.devRef .tc main_v2_1), fun c => W7 m ρ c (Proc.devRef .tc main_v5_0), fun c => W7 m ρ c (Proc.devRef .tc main_v5_1),
    (θ_run _ _ _).mono (fun r h c => h.1 c) (Cert.KernelIdeal.Run.run m ρ), (θ_run _ _ _).mono (fun r h c => ?_) (Cert.ReferenceIdeal.Value.run m' ρ')⟩
  obtain ⟨h0, h1, h2, h3, h4, h5, h6, h7, hk⟩ := h c
  obtain ⟨e0, e1, e2, e3, e4, e5⟩ := hargs c
  rw [e0, e1, e2, e3, e4, e5] at h0 h1 h2 h3 h4 h5 h6 h7
  exact ⟨h0.trans (eq1 m ρ c).symm, h1.trans (eq2 m ρ c).symm, h2.trans (eq3 m ρ c).symm, h3.trans (eq4 m ρ c).symm,
    h4.trans (eq5 m ρ c).symm, h5.trans (eq6 m ρ c).symm, h6.trans (eq7 m ρ c).symm, h7.trans (eq8 m ρ c).symm, hk⟩

end Cert.Equal

end
-- ==== Proof.lean ====
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All five claims: the three frames, that the ideal program is the kernel over the extended reals, and that the kernel and
    the reference compute the same eight results there. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, Cert.Equal.algebraic⟩

end Cert.Proof

end
